-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S32x256 : Shape := ⟨2, ![32, 256]⟩
abbrev S7 : Shape := ⟨1, ![7]⟩
abbrev S_ : Shape := ⟨0, ![]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S512x256, .f32⟩
  | .hbm, ⟨3, _⟩ => ⟨S256x256, .f32⟩
  | .local _ .vmem, ⟨0, _⟩ => ⟨S256x256, .f32⟩
  | .local _ .vmem, ⟨1, _⟩ => ⟨S256x512, .f32⟩
  | .local _ .vmem, ⟨2, _⟩ => ⟨S512x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S32x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_40 : BitVec 32 := 32#32
  let v48 : BitVec 32 := Scalar.muli v2 c32_i32_40
  let c0_i32_45 : BitVec 32 := 0#32
  ![v48.toNat, 0]
def k0_off2 (d0 : Dev nD) (c1_i32_38 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v45 : BitVec 32 := Scalar.addi v2 c1_i32_38
  let c8_i32_39 : BitVec 32 := 8#32
  let v46 : BitVec 32 := Scalar.remsi v45 c8_i32_39
  let c32_i32 : BitVec 32 := 32#32
  let v47 : BitVec 32 := Scalar.muli v46 c32_i32
  let c0_i32_46 : BitVec 32 := 0#32
  ![v47.toNat, 0]
def k0_dev8 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_38 : BitVec 32 := 1#32
  let v45 : BitVec 32 := Scalar.addi v2 c1_i32_38
  let c8_i32_39 : BitVec 32 := 8#32
  let v46 : BitVec 32 := Scalar.remsi v45 c8_i32_39
  let c1_i32_43 : BitVec 32 := 1#32
  let v49 : BitVec 32 := Scalar.muli v46 c1_i32_43
  let v50 : BitVec 32 := Scalar.addi c0_i32_44 v49
  v50.toNat
def k0_dev9 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_47 : BitVec 32 := 2#32
  let v57 : BitVec 32 := Scalar.addi v2 c2_i32_47
  let c8_i32_48 : BitVec 32 := 8#32
  let v58 : BitVec 32 := Scalar.remsi v57 c8_i32_48
  let c1_i32_53 : BitVec 32 := 1#32
  let v61 : BitVec 32 := Scalar.muli v58 c1_i32_53
  let v62 : BitVec 32 := Scalar.addi c0_i32_54 v61
  v62.toNat
def k0_dev10 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_57 : BitVec 32 := 3#32
  let v69 : BitVec 32 := Scalar.addi v2 c3_i32_57
  let c8_i32_58 : BitVec 32 := 8#32
  let v70 : BitVec 32 := Scalar.remsi v69 c8_i32_58
  let c1_i32_63 : BitVec 32 := 1#32
  let v73 : BitVec 32 := Scalar.muli v70 c1_i32_63
  let v74 : BitVec 32 := Scalar.addi c0_i32_64 v73
  v74.toNat
def k0_dev11 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_67 : BitVec 32 := 4#32
  let v81 : BitVec 32 := Scalar.addi v2 c4_i32_67
  let c8_i32_68 : BitVec 32 := 8#32
  let v82 : BitVec 32 := Scalar.remsi v81 c8_i32_68
  let c1_i32_73 : BitVec 32 := 1#32
  let v85 : BitVec 32 := Scalar.muli v82 c1_i32_73
  let v86 : BitVec 32 := Scalar.addi c0_i32_74 v85
  v86.toNat
def k0_dev12 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_77 : BitVec 32 := 5#32
  let v93 : BitVec 32 := Scalar.addi v2 c5_i32_77
  let c8_i32_78 : BitVec 32 := 8#32
  let v94 : BitVec 32 := Scalar.remsi v93 c8_i32_78
  let c1_i32_83 : BitVec 32 := 1#32
  let v97 : BitVec 32 := Scalar.muli v94 c1_i32_83
  let v98 : BitVec 32 := Scalar.addi c0_i32_84 v97
  v98.toNat
def k0_dev13 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_87 : BitVec 32 := 6#32
  let v105 : BitVec 32 := Scalar.addi v2 c6_i32_87
  let c8_i32_88 : BitVec 32 := 8#32
  let v106 : BitVec 32 := Scalar.remsi v105 c8_i32_88
  let c1_i32_93 : BitVec 32 := 1#32
  let v109 : BitVec 32 := Scalar.muli v106 c1_i32_93
  let v110 : BitVec 32 := Scalar.addi c0_i32_94 v109
  v110.toNat
def k0_dev14 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_97 : BitVec 32 := 7#32
  let v117 : BitVec 32 := Scalar.addi v2 c7_i32_97
  let c8_i32_98 : BitVec 32 := 8#32
  let v118 : BitVec 32 := Scalar.remsi v117 c8_i32_98
  let c1_i32_103 : BitVec 32 := 1#32
  let v121 : BitVec 32 := Scalar.muli v118 c1_i32_103
  let v122 : BitVec 32 := Scalar.addi c0_i32_104 v121
  v122.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_107 : BitVec 32 := 32#32
  let v129 : BitVec 32 := Scalar.muli v2 c32_i32_107
  let v130 : Index := Scalar.indexCast v129
  let c0_108 : Index := 0#32
  ![v130.toNat, 0]
def k0_off4 (d0 : Dev nD) (c1_i32_113 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v140 : BitVec 32 := Scalar.addi v2 c1_i32_113
  let c8_i32_114 : BitVec 32 := 8#32
  let v141 : BitVec 32 := Scalar.remsi v140 c8_i32_114
  let c32_i32_123 : BitVec 32 := 32#32
  let v149 : BitVec 32 := Scalar.muli v141 c32_i32_123
  let v150 : Index := Scalar.indexCast v149
  let c0_124 : Index := 0#32
  ![v150.toNat, 0]
def k0_dev15 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_199 : BitVec 32 := 1#32
  let v234 : BitVec 32 := Scalar.addi v2 c1_i32_199
  let c8_i32_200 : BitVec 32 := 8#32
  let v235 : BitVec 32 := Scalar.remsi v234 c8_i32_200
  let c1_i32_204 : BitVec 32 := 1#32
  let v237 : BitVec 32 := Scalar.muli v235 c1_i32_204
  let v238 : BitVec 32 := Scalar.addi c0_i32_205 v237
  v238.toNat
def k0_dev16 (d0 : Dev nD) : Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_207 : BitVec 32 := 2#32
  let v244 : BitVec 32 := Scalar.addi v2 c2_i32_207
  let c8_i32_208 : BitVec 32 := 8#32
  let v245 : BitVec 32 := Scalar.remsi v244 c8_i32_208
  let c1_i32_212 : BitVec 32 := 1#32
  let v247 : BitVec 32 := Scalar.muli v245 c1_i32_212
  let v248 : BitVec 32 := Scalar.addi c0_i32_213 v247
  v248.toNat
def k0_dev17 (d0 : Dev nD) : Nat :=
  let c0_i32_221 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_215 : BitVec 32 := 3#32
  let v254 : BitVec 32 := Scalar.addi v2 c3_i32_215
  let c8_i32_216 : BitVec 32 := 8#32
  let v255 : BitVec 32 := Scalar.remsi v254 c8_i32_216
  let c1_i32_220 : BitVec 32 := 1#32
  let v257 : BitVec 32 := Scalar.muli v255 c1_i32_220
  let v258 : BitVec 32 := Scalar.addi c0_i32_221 v257
  v258.toNat
def k0_dev18 (d0 : Dev nD) : Nat :=
  let c0_i32_229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_223 : BitVec 32 := 4#32
  let v264 : BitVec 32 := Scalar.addi v2 c4_i32_223
  let c8_i32_224 : BitVec 32 := 8#32
  let v265 : BitVec 32 := Scalar.remsi v264 c8_i32_224
  let c1_i32_228 : BitVec 32 := 1#32
  let v267 : BitVec 32 := Scalar.muli v265 c1_i32_228
  let v268 : BitVec 32 := Scalar.addi c0_i32_229 v267
  v268.toNat
def k0_dev19 (d0 : Dev nD) : Nat :=
  let c0_i32_237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_231 : BitVec 32 := 5#32
  let v274 : BitVec 32 := Scalar.addi v2 c5_i32_231
  let c8_i32_232 : BitVec 32 := 8#32
  let v275 : BitVec 32 := Scalar.remsi v274 c8_i32_232
  let c1_i32_236 : BitVec 32 := 1#32
  let v277 : BitVec 32 := Scalar.muli v275 c1_i32_236
  let v278 : BitVec 32 := Scalar.addi c0_i32_237 v277
  v278.toNat
def k0_dev20 (d0 : Dev nD) : Nat :=
  let c0_i32_245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_239 : BitVec 32 := 6#32
  let v284 : BitVec 32 := Scalar.addi v2 c6_i32_239
  let c8_i32_240 : BitVec 32 := 8#32
  let v285 : BitVec 32 := Scalar.remsi v284 c8_i32_240
  let c1_i32_244 : BitVec 32 := 1#32
  let v287 : BitVec 32 := Scalar.muli v285 c1_i32_244
  let v288 : BitVec 32 := Scalar.addi c0_i32_245 v287
  v288.toNat
def k0_dev21 (d0 : Dev nD) : Nat :=
  let c0_i32_253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_247 : BitVec 32 := 7#32
  let v294 : BitVec 32 := Scalar.addi v2 c7_i32_247
  let c8_i32_248 : BitVec 32 := 8#32
  let v295 : BitVec 32 := Scalar.remsi v294 c8_i32_248
  let c1_i32_252 : BitVec 32 := 1#32
  let v297 : BitVec 32 := Scalar.muli v295 c1_i32_252
  let v298 : BitVec 32 := Scalar.addi c0_i32_253 v297
  v298.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x256 : Shape := ⟨2, ![256, 256]⟩
abbrev S256x4096 : Shape := ⟨2, ![256, 4096]⟩
abbrev S4096x256 : Shape := ⟨2, ![4096, 256]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x4096, .f32⟩
  | .hbm, ⟨2, _⟩ => ⟨S4096x256, .f32⟩
  | .hbm, ⟨3, _⟩ => ⟨S256x4096, .f32⟩
  | .hbm, ⟨4, _⟩ => ⟨S_, .f32⟩
  | .hbm, ⟨5, _⟩ => ⟨S256x4096, .f32⟩
  | .hbm, ⟨6, _⟩ => ⟨S256x4096, .f32⟩
  | .hbm, ⟨7, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Phases.lean ====
/-
# Seven steps, one state

Every phase of the kernel is seven steps of one kind. What is still to do and what is already done before step `k` are
separating conjunctions over the steps `≥ k` and `< k`, what is still owed a sum over the steps `≥ k`; one step moves one
member. These are stated here once, for any family.
-/
module

public import Idealize.ShloMosaic.Lib.Pipeline.Kit
public import Idealize.ShloMosaic.Lib.Tactic

@[expose] public section

noncomputable section

namespace Cert.Mlp

open Idealize.ShloMosaic
open Idealize.SL Idealize.SL.RA Idealize.SL.BI
open scoped Idealize.SL.BI
open Idealize.SL.BI.BIBase Idealize.SL.BI.Laws Idealize.SL.ProofMode

/-- The steps from `k` on. -/
def stepsFrom (k : ℕ) : Finset (Fin 7) := Finset.univ.filter fun i => k ≤ i.val
/-- The steps before `k`. -/
def stepsTo (k : ℕ) : Finset (Fin 7) := Finset.univ.filter fun i => i.val < k

theorem stepsFrom_take (k : Fin 7) : stepsFrom k.val = insert k (stepsFrom (k.val + 1)) := by revert k; decide
theorem notMem_stepsFrom (k : Fin 7) : k ∉ stepsFrom (k.val + 1) := by revert k; decide
theorem stepsTo_put (k : Fin 7) : stepsTo (k.val + 1) = insert k (stepsTo k.val) := by revert k; decide
theorem notMem_stepsTo (k : Fin 7) : k ∉ stepsTo k.val := by revert k; decide
theorem stepsFrom_zero : stepsFrom 0 = Finset.univ := by decide
theorem stepsFrom_seven : stepsFrom 7 = ∅ := by decide
theorem stepsTo_zero : stepsTo 0 = ∅ := by decide
theorem stepsTo_seven : stepsTo 7 = Finset.univ := by decide

section Sep
variable {M : Type} [URA M] (Φ : Fin 7 → sProp M)

/-- What the steps from `k` on still hold. -/
def todo (k : ℕ) : sProp M := bigSep (stepsFrom k) Φ
/-- What the steps before `k` have left. -/
def finished (k : ℕ) : sProp M := bigSep (stepsTo k) Φ

theorem todo_take (k : ℕ) (hk : k < 7) : todo Φ k = iprop(Φ ⟨k, hk⟩ ∗ todo Φ (k + 1)) := by
  unfold todo
  rw [stepsFrom_take ⟨k, hk⟩, bigSep_insert (notMem_stepsFrom ⟨k, hk⟩)]; rfl
theorem finished_put (k : ℕ) (hk : k < 7) : finished Φ (k + 1) = iprop(Φ ⟨k, hk⟩ ∗ finished Φ k) := by
  unfold finished
  rw [stepsTo_put ⟨k, hk⟩, bigSep_insert (notMem_stepsTo ⟨k, hk⟩)]; rfl
theorem todo_zero : todo Φ 0 = bigSep Finset.univ Φ := by unfold todo; rw [stepsFrom_zero]
theorem todo_seven : todo Φ 7 = iprop(emp) := by unfold todo; rw [stepsFrom_seven]; exact bigSep_empty
theorem finished_zero : finished Φ 0 = iprop(emp) := by unfold finished; rw [stepsTo_zero]; exact bigSep_empty
theorem finished_seven : finished Φ 7 = bigSep Finset.univ Φ := by unfold finished; rw [stepsTo_seven]

end Sep

section Sum
variable {T : Type*} [AddCommMonoid T] (f : Fin 7 → T)

/-- What the steps from `k` on still owe. -/
def due (k : ℕ) : T := ∑ i ∈ stepsFrom k, f i

theorem due_take (k : ℕ) (hk : k < 7) : due f k = due f (k + 1) + f ⟨k, hk⟩ := by
  unfold due
  rw [stepsFrom_take ⟨k, hk⟩, Finset.sum_insert (notMem_stepsFrom ⟨k, hk⟩)]; exact add_comm _ _
theorem due_zero : due f 0 = ∑ i, f i := by unfold due; rw [stepsFrom_zero]
theorem due_seven : due f 7 = 0 := by unfold due; rw [stepsFrom_seven]; exact Finset.sum_empty

end Sum

/-- A property closed under `0` and `+` holds of what is still owed if it holds of each summand. -/
theorem due_induct {T : Type*} [AddCommMonoid T] (P : T → Prop) (h0 : P 0) (hadd : ∀ a b, P a → P b → P (a + b))
    (f : Fin 7 → T) (hf : ∀ i, P (f i)) (k : ℕ) : P (due f k) := by
  unfold due
  exact Finset.sum_induction f P hadd h0 fun i _ => hf i

end Cert.Mlp

end
-- ==== Proof.Mesh.lean ====
/-
# The mesh, the buffers and what they hold

Eight devices; device `c` reaches the device `k + 1` places after it as `fw c k`, and is itself `k.rev + 1` places after that
one. The three copied buffers are cut into eight blocks of 32 rows, block `j` being device `j`'s share of the rows. Device `c`
computes its partial product `part c`, sends block `j` of it to device `j`, adds the eight blocks it holds of its own rows into
`red c`, and sends that to everyone: the result is `outV`, on every device.
-/
module

public import proofs.«01_k».proof.Proof.Phases
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The devices -/

set_option backward.proofsInPublic true in
/-- The device `k + 1` places after `c`. -/
def fw (c : Dev nD) (k : Fin 7) : Dev nD := ⟨(c.val + k.val + 1) % 8, Nat.mod_lt _ (by decide)⟩

theorem fw_fw_rev (c : Dev nD) (k : Fin 7) : fw (fw c k) k.rev = c := by revert c k; decide
theorem fw_rev_fw (c : Dev nD) (k : Fin 7) : fw (fw c k.rev) k = c := by revert c k; decide
theorem fw_ne (c : Dev nD) (k : Fin 7) : fw c k ≠ c := by revert c k; decide
theorem fw_inj (c : Dev nD) : Function.Injective (fw c) := by revert c; decide

/-- Going `k + 1` places on is a permutation of the devices. -/
def turn (k : Fin 7) : Dev nD ≃ Dev nD := ⟨fun c => fw c k, fun c => fw c k.rev, fun c => fw_fw_rev c k, fun c => fw_rev_fw c k⟩

/-- A device and the seven after it are all eight. -/
theorem univ_dev (c : Dev nD) : (Finset.univ : Finset (Dev nD)) = insert c (Finset.univ.map ⟨fw c, fw_inj c⟩) := by
  revert c; decide
theorem notMem_map_fw (c : Dev nD) : c ∉ Finset.univ.map ⟨fw c, fw_inj c⟩ := by revert c; decide

/-- A conjunction over the devices, from device `c`: its own member, and those of the seven after it. -/
theorem bigSep_dev {M : Type} [URA M] (c : Dev nD) (Φ : Dev nD → sProp M) :
    bigSep Finset.univ Φ = iprop(Φ c ∗ bigSep Finset.univ fun k => Φ (fw c k)) := by
  conv_lhs => rw [univ_dev c, bigSep_insert (notMem_map_fw c), bigSep_map]
  rfl

/-! ## The semaphores -/

/-- The four families of seven transfer semaphores: `0` the sends and `1` the arrivals of the partial products, `2` the sends
    and `3` the arrivals of the sums. -/
def xs (a : Fin 4) (k : Fin 7) : DmaSem sig := ⟨4 + 7 * a.val + k.val, by have := a.isLt; have := k.isLt; show _ < 32; omega⟩

/-- The barrier semaphore. -/
abbrev barS : Sem sig := (SemArray.scalar (sig.barrier 0 rfl) : Sems sig S_).sem

/-- A device's cells: the barrier (`none`) and the 28 transfer semaphores. -/
abbrev Slot : Type := Option (Fin 4 × Fin 7)

def csem : Slot → SemLoc sig
  | none => .reg barS
  | some ak => .dma (xs ak.1 ak.2)

/-- Which of a device's cells a semaphore is: the first four transfer semaphores belong to the staging and are none. -/
def slotOf : SemLoc sig → Option Slot
  | .reg _ => some none
  | .dma s => if 4 ≤ s.val then some (some (⟨(s.val - 4) / 7 % 4, Nat.mod_lt _ (by decide)⟩, ⟨(s.val - 4) % 7, Nat.mod_lt _ (by decide)⟩)) else none

theorem slotOf_csem (i : Slot) : slotOf (csem i) = some i := by revert i; decide
theorem csem_injective : Function.Injective csem := fun i j h => Option.some.inj ((slotOf_csem i).symm.trans ((congrArg slotOf h).trans (slotOf_csem j)))

abbrev cell (c : Dev nD) (i : Slot) : GSem nD τ sig := ((c : Thread nD τ), csem i)
abbrev barCell (c : Dev nD) : GSem nD τ sig := cell c none
abbrev xCell (a : Fin 4) (c : Dev nD) (k : Fin 7) : GSem nD τ sig := cell c (some (a, k))

theorem cell_injective : Function.Injective fun ci : Dev nD × Slot => cell ci.1 ci.2 := by
  rintro ⟨c, i⟩ ⟨c', i'⟩ h
  have h1 : c = c' := congrArg (fun g : GSem nD τ sig => g.1.1) h
  have h2 : i = i' := csem_injective (congrArg Prod.snd h)
  rw [h1, h2]

/-! ## The buffers -/

abbrev xM : Memref sig .tc .vmem S256x256 .f32 := Memref.whole cc0_stg0_0
abbrev w1M : Memref sig .tc .vmem S256x512 .f32 := Memref.whole cc0_stg1_0
abbrev w2M : Memref sig .tc .vmem S512x256 .f32 := Memref.whole cc0_stg2_0
/-- The result. -/
abbrev oM : Memref sig .tc .vmem S256x256 .f32 := Memref.whole cc0_stg3_0
/-- The partial product. -/
abbrev pM : Memref sig .tc .vmem S256x256 .f32 := Memref.whole cc0_scratch0
/-- Where the partial products of this device's rows arrive, a block for each device. -/
abbrev rM : Memref sig .tc .vmem S256x256 .f32 := Memref.whole cc0_scratch1
/-- The sum of this device's rows. -/
abbrev dM : Memref sig .tc .vmem S32x256 .f32 := Memref.whole cc0_scratch2

theorem row_inb (j : Dev nD) : ∀ a, (![32 * j.val, 0] : Fin 2 → Nat) a + S32x256.size a ≤ S256x256.size a := by revert j; decide

/-- Block `j`: the 32 rows of device `j`. -/
abbrev row (j : Dev nD) : Rect S256x256 := Rect.unit (s := S256x256) ![32 * j.val, 0] S32x256.size (row_inb j)

/-- Block `j` of a buffer. -/
abbrev cut (M : Memref sig .tc .vmem S256x256 .f32) (j : Dev nD) : Memref sig .tc .vmem S32x256 .f32 := M.slice (row j) (fun _ => rfl)

/-- Block `j` of contents. -/
abbrev blk (X : Vec F S256x256 .f32) (j : Dev nD) : Vec F S32x256 .f32 := fun i => X ((row j).emb i)

/-- The units a block's transfer counts. -/
abbrev N : ℕ := (cut rM 0).view.dmaCredit
theorem N_pos : 0 < N := View.dmaCredit_pos _ (by decide)

/-- Every transfer of a block, whatever its first row, between whichever of the buffers, counts the same units. -/
theorem credit_o (r) (h) : (oM.slice (Rect.unit (s := S256x256) r S32x256.size h) (fun _ => rfl) : Memref sig .tc .vmem S32x256 .f32).view.dmaCredit = N := rfl
theorem credit_r (r) (h) : (rM.slice (Rect.unit (s := S256x256) r S32x256.size h) (fun _ => rfl) : Memref sig .tc .vmem S32x256 .f32).view.dmaCredit = N := rfl
theorem credit_p (r) (h) : (pM.slice (Rect.unit (s := S256x256) r S32x256.size h) (fun _ => rfl) : Memref sig .tc .vmem S32x256 .f32).view.dmaCredit = N := rfl
theorem credit_d : dM.view.dmaCredit = N := rfl

theorem row_disjoint (j j' : Dev nD) (h : j ≠ j') : Disjoint (row j).set (row j').set :=
  Ring.lead_disjoint (s := S256x256) (NB := 8) (0 : Fin 2) 32 (fun j a => (![32 * j.val, 0] : Fin 2 → Nat) a) S32x256.size row_inb
    (fun _ => rfl) rfl j j' h
theorem row_cover : Finset.univ.biUnion (fun j : Dev nD => (row j).set) = Finset.univ :=
  Ring.lead_cover (s := S256x256) (NB := 8) (0 : Fin 2) 32 (fun j a => (![32 * j.val, 0] : Fin 2 → Nat) a) S32x256.size row_inb
    (fun _ => rfl) (fun _ a h => by fin_cases a; · exact absurd rfl h
                                    · rfl) rfl (fun a h => by fin_cases a; · exact absurd rfl h
                                                              · rfl) rfl

/-! ## Blocks put together -/

theorem row_of_lt (i : S256x256.Idx) : (i (0 : Fin 2)).val / 32 < nD := by
  have h : (i (0 : Fin 2)).val < 256 := (i (0 : Fin 2)).isLt
  show _ < 8; omega
theorem col_pos (a : Fin 2) : 0 < S32x256.size a := by revert a; decide

/-- The contents whose block `j` is `Y j`. -/
def glue (Y : Dev nD → Vec F S32x256 .f32) : Vec F S256x256 .f32 := fun i =>
  Y ⟨(i (0 : Fin 2)).val / 32, row_of_lt i⟩ fun a => ⟨(i a).val % S32x256.size a, Nat.mod_lt _ (col_pos a)⟩

theorem blk_glue (Y : Dev nD → Vec F S32x256 .f32) (j : Dev nD) : blk (glue Y) j = Y j := by
  funext i
  show glue Y ((row j).emb i) = Y j i
  have h0 : ((row j).emb i (0 : Fin 2)).val = 32 * j.val + (i (0 : Fin 2)).val := by
    rw [Rect.emb_apply]; show 32 * j.val + 1 * _ = _; omega
  have h1 : ((row j).emb i (1 : Fin 2)).val = (i (1 : Fin 2)).val := by
    rw [Rect.emb_apply]; show 0 + 1 * _ = _; omega
  have hi0 : (i (0 : Fin 2)).val < 32 := (i (0 : Fin 2)).isLt
  have hi1 : (i (1 : Fin 2)).val < 256 := (i (1 : Fin 2)).isLt
  unfold glue
  have hj : (⟨((row j).emb i (0 : Fin 2)).val / 32, row_of_lt _⟩ : Dev nD) = j := Fin.ext (by show _ / 32 = _; rw [h0]; omega)
  rw [hj]
  congr 1
  funext a
  refine Fin.ext ?_
  fin_cases a
  · show ((row j).emb i (0 : Fin 2)).val % 32 = _; rw [h0]; show _ = (i (0 : Fin 2)).val; omega
  · show ((row j).emb i (1 : Fin 2)).val % 256 = _; rw [h1]; show _ = (i (1 : Fin 2)).val; omega

/-! ## The contents -/

section Contents
variable (m : (ℓ : Loc nD τ sig) → Buf (Elt F) ℓ)

/-- What the pipeline stages on device `c`: `x`, its columns of `W1`, its rows of `W2`. -/
def xin (c : Dev nD) : (cc0_stg0_0 : Ref sig .tc).ty.Contents (Elt F) := (win0_0.blk (0 : Fin 1)).view.read (Elt F) (m ((c : Thread nD τ).loc main_arg0))
def w1in (c : Dev nD) : (cc0_stg1_0 : Ref sig .tc).ty.Contents (Elt F) := (win0_1.blk (0 : Fin 1)).view.read (Elt F) (m ((c : Thread nD τ).loc main_arg1))
def w2in (c : Dev nD) : (cc0_stg2_0 : Ref sig .tc).ty.Contents (Elt F) := (win0_2.blk (0 : Fin 1)).view.read (Elt F) (m ((c : Thread nD τ).loc main_arg2))

/-- Device `c`'s partial product. -/
def part (c : Dev nD) : Vec F S256x256 .f32 := k0_pay1 (xin m c) (w1in m c) (w2in m c)

/-- Block `c` of the partial product of the device `k + 1` places after `c`. -/
def term (c : Dev nD) (k : Fin 7) : Vec F S32x256 .f32 := blk (part m (fw c k)) c

/-- The first three partial products of device `c`'s rows added, in the order of arrival. -/
def acc3 (c : Dev nD) : FVec F S32x256 .f32 := k0_pay3 (k0_pay2 (blk (part m c) c)) (term m c 0) (term m c 1)
/-- The first six. -/
def acc6 (c : Dev nD) : FVec F S32x256 .f32 := k0_pay4 (acc3 m c) (term m c 2) (term m c 3) (term m c 4)
/-- All eight: device `c`'s rows of the result. -/
def red (c : Dev nD) : Vec F S32x256 .f32 := k0_pay5 (acc6 m c) (term m c 5) (term m c 6)

/-- The result: block `j` is device `j`'s sum. -/
def outV : Vec F S256x256 .f32 := glue (red m)

theorem blk_outV (j : Dev nD) : blk (outV m) j = red m j := blk_glue (red m) j

end Contents

end Cert.Mlp

end
-- ==== Proof.Schedule.lean ====
/-
# The protocol

One round. A device's barrier cell has seven duties of one unit: duty `j` is paid by the device `j + 1` places on, and hands
over block `c` of its arrival buffer and of its result, which this device may then fill. Each of the 28 transfer cells has one
duty, of a block's units: an arrival hands over the block with what landed in it, a send hands back what was sent.
-/
module

public import proofs.«01_k».proof.Proof.Mesh
public import Idealize.ShloMosaic.Lib.Transfers

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the protocol's, whose duties are numbered -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## What is handed over -/

/-- Block `j` of `M` on device `d`, holding `X`. -/
def has (d : Dev nD) (M : Memref sig .tc .vmem S256x256 .f32) (j : Dev nD) (X : Vec F S32x256 .f32) : sProp 𝕄 :=
  owns (d : Thread nD τ) (cut M j) fullShare X
/-- Block `j` of `M` on device `d`, holding anything. -/
def hasAny (d : Dev nD) (M : Memref sig .tc .vmem S256x256 .f32) (j : Dev nD) : sProp 𝕄 := iprop(∃ X, has (F := F) d M j X)
/-- One of seven shares of device `d`'s sum buffer, holding its sum. -/
def sumShare (d : Dev nD) (k : Fin 7) : sProp 𝕄 :=
  ((d : Thread nD τ).loc cc0_scratch2) ↦{Transfers.dealOf fullShare Finset.univ k} (red m d : (cc0_scratch2 : Ref sig .tc).ty.Contents (Elt F))

/-- Duty `j` of device `c`'s barrier: the blocks `c` of the device `j + 1` places on. -/
def barPay (c : Dev nD) (j : Fin 7) : sProp 𝕄 := iprop(hasAny (F := F) (fw c j) rM c ∗ hasAny (F := F) (fw c j) oM c)

/-- What the transfer cell `(a, k)` of device `c` hands over. -/
def xPay (c : Dev nD) (a : Fin 4) (k : Fin 7) : sProp 𝕄 :=
  match a with
  | 0 => has c pM (fw c k) (blk (part m c) (fw c k))
  | 1 => has c rM (fw c k.rev) (term m c k.rev)
  | 2 => sumShare m c k
  | 3 => has c oM (fw c k.rev) (red m (fw c k.rev))

omit [FloatOps F] in
instance has_storable (d : Dev nD) (M) (j : Dev nD) (X) : BI.Storable (upEmb : UEmb _ 𝕄) (has (F := F) d M j X) := by unfold has; infer_instance
omit [FloatOps F] in
instance barPay_storable (c : Dev nD) (j : Fin 7) : BI.Storable (upEmb : UEmb _ 𝕄) (barPay (F := F) c j) := by unfold barPay hasAny; infer_instance
instance xPay_storable (c : Dev nD) (a : Fin 4) (k : Fin 7) : BI.Storable (upEmb : UEmb _ 𝕄) (xPay m c a k) := by
  unfold xPay sumShare; split <;> infer_instance

/-! ## The schedule -/

/-- One round: seven duties of a barrier, one of a transfer cell. -/
def sched : Rounds.Schedule (GSem nD τ sig) (Fin 7) 𝕄 where
  duties g r := if r = 0 ∧ g.1.2 = .tc then (match slotOf g.2 with | some none => Finset.univ | some (some _) => {0} | none => ∅) else ∅
  unitless _ := False
  amount g _ _ := match slotOf g.2 with | some (some _) => N | _ => 1
  payload g _ d := match slotOf g.2 with | some none => barPay g.1.1 d | some (some ak) => xPay m g.1.1 ak.1 ak.2 | none => iprop(emp)
  amount_pos g _ _ _ := by
    split
    · exact N_pos
    · exact Nat.one_pos

instance sched_payload_storable (g : GSem nD τ sig) (r : ℕ) (d : Fin 7) : BI.Storable (upEmb : UEmb _ 𝕄) ((sched m).payload g r d) := by
  show BI.Storable upEmb (match slotOf g.2 with | some none => barPay g.1.1 d | some (some ak) => xPay m g.1.1 ak.1 ak.2 | none => iprop(emp))
  split <;> infer_instance

section Sched
variable (c : Dev nD) (a : Fin 4) (k : Fin 7)

theorem duties_bar : (sched m).duties (barCell c) 0 = Finset.univ := by
  dsimp only [sched]; rw [if_pos ⟨rfl, rfl⟩, slotOf_csem]
theorem duties_x : (sched m).duties (xCell a c k) 0 = {0} := by
  dsimp only [sched]; rw [if_pos ⟨rfl, rfl⟩, slotOf_csem]
theorem duties_later (g : GSem nD τ sig) : ∀ r, 1 ≤ r → (sched m).duties g r = ∅ :=
  fun r hr => by dsimp only [sched]; exact if_neg fun h => by omega
theorem amount_bar (d : Fin 7) : (sched m).amount (barCell c) 0 d = 1 := by dsimp only [sched]; rw [slotOf_csem]
theorem amount_x (d : Fin 7) : (sched m).amount (xCell a c k) 0 d = N := by dsimp only [sched]; rw [slotOf_csem]
theorem payload_bar (d : Fin 7) : (sched m).payload (barCell c) 0 d = barPay c d := by dsimp only [sched]; rw [slotOf_csem]
theorem payload_x (d : Fin 7) : (sched m).payload (xCell a c k) 0 d = xPay m c a k := by dsimp only [sched]; rw [slotOf_csem]

theorem expect_bar : (sched m).expect (barCell c) 0 = 7 := by
  unfold Schedule.expect Schedule.amountOf
  rw [duties_bar, Finset.sum_congr rfl fun d _ => amount_bar m c d, Finset.sum_const, Finset.card_univ, Fintype.card_fin, smul_eq_mul]
theorem expect_x : (sched m).expect (xCell a c k) 0 = N := by
  unfold Schedule.expect Schedule.amountOf; rw [duties_x, Finset.sum_singleton, amount_x]

/-- The round of a barrier: the blocks `c` of the other seven devices. -/
theorem rest_bar : bigSep ((sched m).duties (barCell c) 0 \ ∅) (fun d => (sched m).payload (barCell c) 0 d) = bigSep Finset.univ fun j => barPay c j := by
  rw [Finset.sdiff_empty, duties_bar]; exact bigSep_congr fun d _ => payload_bar m c d
theorem rest_x : bigSep ((sched m).duties (xCell a c k) 0 \ ∅) (fun d => (sched m).payload (xCell a c k) 0 d) = xPay m c a k := by
  rw [Finset.sdiff_empty, duties_x, bigSep_singleton, payload_x]

end Sched

/-! ## What each device owes, and the order of the waits -/

/-- The barrier units device `c` owes, in the order of its signals; -/
def oweBar (c : Dev nD) (k : Fin 7) : CellTallies nD τ sig Unit := tallyAt (barCell (fw c k)) () 1
/-- the arrivals of family `a` it owes, in the order of its transfers. -/
def oweX (a : Fin 4) (c : Dev nD) (k : Fin 7) : CellTallies nD τ sig Unit := tallyAt (xCell a (fw c k) k) () N

/-- All that device `c` owes at launch. -/
def O₀ (c : Dev nD) : CellTallies nD τ sig Unit := due (oweX 3 c) 0 + due (oweX 1 c) 0 + due (oweBar c) 0

def L (g : GSem nD τ sig) : Finset Unit := if g.1.2 = .tc then {()} else ∅
/-- Barriers at 1, arrivals of partial products at 2, arrivals of sums at 3, everything else at 0. -/
def lv (g : GSem nD τ sig) (_ : Unit) : ℕ :=
  match slotOf g.2 with
  | some none => 1
  | some (some ak) => if ak.1 = 1 then 2 else if ak.1 = 3 then 3 else 0
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (i : Slot) : lv (cell c i) () = match i with | none => 1 | some ak => if ak.1 = 1 then 2 else if ak.1 = 3 then 3 else 0 := by
  unfold lv; rw [slotOf_csem]; cases i <;> rfl

/-- All that is owed lies above level `n`, on TensorCore cells. -/
def Above (n : ℕ) (O : CellTallies nD τ sig Unit) : Prop := ∀ g u, 0 < O g u → g.1.2 = .tc ∧ n < lv g u

theorem above_zero (n : ℕ) : Above n 0 := fun g u h => absurd h (by simp)
theorem above_add (n : ℕ) (O O') (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tallyAt (n : ℕ) (c : Dev nD) (i : Slot) (a : ℕ) (hi : n < lv (cell c i) ()) : Above n (tallyAt (cell c i) () a) := fun g u hg => by
  rw [tallyAt_apply] at hg
  by_cases h : g = cell c i ∧ u = ()
  · rw [h.1]; exact ⟨rfl, hi⟩
  · rw [if_neg h] at hg; exact absurd hg (Nat.lt_irrefl 0)
theorem above_bar (c : Dev nD) (k : ℕ) : Above 0 (due (oweBar c) k) :=
  due_induct (Above 0) (above_zero 0) (above_add 0) _ (fun i => above_tallyAt 0 _ none 1 (by rw [lv_cell]; decide)) k
theorem above_one (n : ℕ) (hn : n < 2) (c : Dev nD) (k : ℕ) : Above n (due (oweX 1 c) k) :=
  due_induct (Above n) (above_zero n) (above_add n) _ (fun i => above_tallyAt n _ (some (1, i)) N (by rw [lv_cell]; exact hn)) k
theorem above_three (n : ℕ) (hn : n < 3) (c : Dev nD) (k : ℕ) : Above n (due (oweX 3 c) k) :=
  due_induct (Above n) (above_zero n) (above_add n) _ (fun i => above_tallyAt n _ (some (3, i)) N (by rw [lv_cell]; exact hn)) k

theorem above_O₀ (c : Dev nD) : Above 0 (O₀ c) :=
  above_add 0 _ _ (above_add 0 _ _ (above_three 0 (by decide) c 0) (above_one 0 (by decide) c 0)) (above_bar c 0)

omit [FloatOps F] in
/-- A device may wait on a cell whose level is no more than `n` while all it owes lies above `n`. -/
theorem mayWait (n : ℕ) (c : Dev nD) (sm : SemLoc sig) (hs : lv ((c : Thread nD τ), sm) () ≤ n) (O) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

end Cert.Mlp

end
-- ==== Proof.Steps.lean ====
/-
# The steps of the kernel's phases

One lemma for each kind of operation: a signal, a transfer of a block of the partial product, a transfer of the sum, a wait,
the load after an arrival, and the loads and stores of a block or of a whole buffer. Each moves the state of its phase on by one.
-/
module

public import proofs.«01_k».proof.Proof.Schedule
public import Idealize.ShloMosaic.Lib.Pipeline.Value

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × Slot → ℕ)

/-! ## What every device knows: each cell's invariant, that its round is open, and the order of the waits -/

def know : sProp 𝕄 :=
  iprop(levAts L lv ∗ (bigSep Finset.univ fun ci : Dev nD × Slot => cellInv ER (sched m) (K ci) (cell ci.1 ci.2))
    ∗ bigSep Finset.univ fun ci : Dev nD × Slot => reached ER (cell ci.1 ci.2) 0)

instance know_persistent : BI.Persistent (know m K) := by unfold know; infer_instance

theorem inv_of (c : Dev nD) (i : Slot) : know m K ⊢ cellInv ER (sched m) (K (c, i)) (cell c i) := by
  unfold know
  iintro ⟨-, H, -⟩
  have h : (bigSep Finset.univ fun ci : Dev nD × Slot => (cellInv ER (sched m) (K ci) (cell ci.1 ci.2) : sProp 𝕄)) ⊢ cellInv ER (sched m) (K (c, i)) (cell c i) :=
    bigSep_elim (Φ := fun ci : Dev nD × Slot => (cellInv ER (sched m) (K ci) (cell ci.1 ci.2) : sProp 𝕄)) (Finset.mem_univ (c, i))
  iapply h; iexact H
theorem reached_of (c : Dev nD) (i : Slot) : know m K ⊢ reached ER (cell c i) 0 := by
  unfold know
  iintro ⟨-, -, H⟩
  have h : (bigSep Finset.univ fun ci : Dev nD × Slot => (reached ER (cell ci.1 ci.2) 0 : sProp 𝕄)) ⊢ reached ER (cell c i) 0 :=
    bigSep_elim (Φ := fun ci : Dev nD × Slot => (reached ER (cell ci.1 ci.2) 0 : sProp 𝕄)) (Finset.mem_univ (c, i))
  iapply h; iexact H

theorem levAts_of : know m K ⊢ levAts L lv := by
  unfold know
  iintro ⟨H, -, -⟩
  iexact H

/-- What device `c` owes, whatever it has waited on. -/
def owing (c : Dev nD) (O : CellTallies nD τ sig Unit) : sProp 𝕄 := iprop(∃ W, owes (c : Thread nD τ) O W)

section Steps
variable (c : Dev nD) {α : Type}

/-! ## The signals -/

/-- What signal `k` spends: the duty's token, and the blocks of the device it goes to. -/
def sigRes (k : Fin 7) : sProp 𝕄 :=
  iprop(dutyTok ER (barCell (fw c k)) 0 k.rev ∗ hasAny (F := F) c rM (fw c k) ∗ hasAny (F := F) c oM (fw c k))
/-- Before signal `k`. -/
def sigSt (k : ℕ) : sProp 𝕄 := iprop(owing (F := F) c (due (oweX 3 c) 0 + due (oweX 1 c) 0 + due (oweBar c) k) ∗ todo (sigRes (F := F) c) k)

theorem step_signal (k : ℕ) (hk : k < 7) (n : Dev nD) (hn : n = fw c ⟨k, hk⟩) (w : ℕ) (hw : w = 1)
    {Q : α → sProp 𝕄} {kk : PUnit → Prog (TpuEff nD τ sig (Elt F) Λ₀ .tc) α} :
    know m K ⊢ iprop(sigSt c k
      -∗ (sigSt c (k + 1) -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS w) kk) Q) := by
  subst hn hw
  unfold sigSt owing
  rw [todo_take _ k hk, due_take _ k hk, ← add_assoc]
  unfold sigRes
  iintro #HR ⟨⟨%W, HO⟩, ⟨Ht, Hr, Ho⟩, Hrest⟩ Hk
  iapply (Rounds.wp_signal 𝒱₀ ER (sched m) (c : Thread nD τ) none (dst := ((fw c ⟨k, hk⟩ : Dev nD) : Thread nD τ)) (κ := K (fw c ⟨k, hk⟩, none))
      (d := (⟨k, hk⟩ : Fin 7).rev) ((duties_bar m (fw c ⟨k, hk⟩)).symm ▸ Finset.mem_univ _ : (⟨k, hk⟩ : Fin 7).rev ∈ (sched m).duties (barCell (fw c ⟨k, hk⟩)) 0) (amount_bar m (fw c ⟨k, hk⟩) _) ()
      (due (oweX 3 c) 0 + due (oweX 1 c) 0 + due (oweBar c) (k + 1)) rfl) $$ [HO Ht Hr Ho]
  · isplitr; · iapply (inv_of m K (fw c ⟨k, hk⟩) none); iexact HR
    isplitl [HO]; · iexact HO
    isplitl [Ht]; · iexact Ht
    isplitl [Hr Ho]
    · have h : iprop(hasAny (F := F) c rM (fw c ⟨k, hk⟩) ∗ hasAny (F := F) c oM (fw c ⟨k, hk⟩))
          ⊢ (sched m).payload (((fw c ⟨k, hk⟩ : Dev nD) : Thread nD τ), SemLoc.reg barS) 0 (⟨k, hk⟩ : Fin 7).rev :=
        Entails.of_eq ((by unfold barPay; rw [fw_fw_rev] : _ = barPay (F := F) (fw c ⟨k, hk⟩) (⟨k, hk⟩ : Fin 7).rev).trans (payload_bar m (fw c ⟨k, hk⟩) _).symm)
      iapply h
      isplitl [Hr] <;> iassumption
    iapply (reached_of m K (fw c ⟨k, hk⟩) none); iexact HR
  iintro HO
  iapply Hk
  isplitl [HO]; · iexists W; iexact HO
  iexact Hrest

/-! ## The transfers -/

/-- A transfer of a block to device `t`, which owns the receive cell `(aR, k)`, its send cell being `(aS, k)`. -/
theorem wp_xfer (aS aR : Fin 4) (k : Fin 7) (t : Dev nD) (src dst : Memref sig .tc .vmem S32x256 .f32) (hN : dst.view.dmaCredit = N)
    (q : PosShare TreeShare) (fs : Buf (Elt F) (src.view.loc (c : Thread nD τ))) (fd : Buf (Elt F) (dst.view.loc (t : Thread nD τ)))
    (n : Dev nD) (hn : n = t) (sS sR : DmaSem sig) (hS : sS = xs aS k) (hR : sR = xs aR k)
    (hpay₁ : (src.view.loc (c : Thread nD τ) ↦[src.view.set]{q} fs : sProp 𝕄) ⊢ xPay m c aS k)
    (hpay₂ : (dst.view.loc (t : Thread nD τ) ↦[dst.view.set]{fullShare} (dst.view.write (Elt F) fd (src.view.read (Elt F) fs) Finset.univ) : sProp 𝕄) ⊢ xPay m t aR k)
    (O : CellTallies nD τ sig Unit) (W : Waits sig Unit)
    {hsc : dst.view.ref.isScScratch = false} {hsrc : src.view.WordExact} {hdst : dst.view.WordExact}
    {hsem : DmaTarget.Typed .vmem (.dma sR) (.remote (Dev.tc n : Thread nD τ) dst (.dma sS) hsc)}
    {Q : α → sProp 𝕄} {kk : PUnit → Prog (TpuEff nD τ sig (Elt F) Λ₀ .tc) α} :
    iprop(know m K ∗ (src.view.loc (c : Thread nD τ) ↦[src.view.set]{q} fs) ∗ (dst.view.loc (t : Thread nD τ) ↦[dst.view.set]{fullShare} fd)
        ∗ owes (c : Thread nD τ) (O + tallyAt (xCell aR t k) () N) W ∗ dutyTok ER (xCell aS c k) 0 0 ∗ dutyTok ER (xCell aR t k) 0 0)
      ⊢ iprop(((cred (tallyAt (xCell aS c k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) kk) Q) := by
  subst hn hS hR
  iintro ⟨#HR, Hs, Hd, HO, HtS, HtR⟩
  iapply (Rounds.wp_send_pointsTo 𝒱₀ ER (sched m) (c : Thread nD τ) none (κ₁ := K (c, some (aS, k))) (κ₂ := K (n, some (aR, k)))
    (r₁ := 0) (r₂ := 0) (d₁ := 0) (d₂ := 0) (fd := fd)
    ((duties_x m c aS k).symm ▸ Finset.mem_singleton_self _ : (0 : Fin 7) ∈ (sched m).duties (xCell aS c k) 0)
    ((duties_x m n aR k).symm ▸ Finset.mem_singleton_self _ : (0 : Fin 7) ∈ (sched m).duties (xCell aR n k) 0)
    () () N (show dst.view.amount (SemLoc.dma (xs aR k)) = N from hN) (amount_x m c aS k 0) (amount_x m n aR k 0) O rfl (W := W)
    (hpay₁.trans (Entails.of_eq (payload_x m c aS k 0).symm)) (hpay₂.trans (Entails.of_eq (payload_x m n aR k 0).symm)))
  isplitr; · iapply (inv_of m K c (some (aS, k))); iexact HR
  isplitr; · iapply (inv_of m K n (some (aR, k))); iexact HR
  isplitl [Hs]; · iexact Hs
  isplitl [Hd]; · iexact Hd
  isplitl [HO]; · iexact HO
  isplitl [HtS]; · iexact HtS
  isplitr; · iapply (reached_of m K c (some (aS, k))); iexact HR
  isplitl [HtR]; · iexact HtR
  iapply (reached_of m K n (some (aR, k))); iexact HR

/-- The units a send cell of family `a` is to give back. -/
def sent (a : Fin 4) (k : Fin 7) : sProp 𝕄 := cred (tallyAt (xCell a c k) () N)

/-- What transfer `k` of the partial product spends: the block, where it goes, and the two tokens. -/
def rsRes (k : Fin 7) : sProp 𝕄 :=
  iprop(has c pM (fw c k) (blk (part m c) (fw c k)) ∗ hasAny (F := F) (fw c k) rM c ∗ dutyTok ER (xCell 0 c k) 0 0 ∗ dutyTok ER (xCell 1 (fw c k) k) 0 0)
/-- Before transfer `k` of the partial product. -/
def rsSt (k : ℕ) : sProp 𝕄 :=
  iprop(owing (F := F) c (due (oweX 3 c) 0 + due (oweX 1 c) k) ∗ todo (rsRes m c) k ∗ finished (sent (F := F) c 0) k)

theorem step_rs (k : ℕ) (hk : k < 7) (n : Dev nD) (hn : n = fw c ⟨k, hk⟩) (sS sR : DmaSem sig) (hS : sS = xs 0 ⟨k, hk⟩) (hR : sR = xs 1 ⟨k, hk⟩)
    (oS oD : Fin 2 → ℕ) (hoS : oS = ![32 * (fw c ⟨k, hk⟩).val, 0]) (hoD : oD = ![32 * c.val, 0]) {iS iD}
    {hsc} {hsrc} {hdst} {hsem} {Q : α → sProp 𝕄} {kk : PUnit → Prog (TpuEff nD τ sig (Elt F) Λ₀ .tc) α} :
    know m K ⊢ iprop(rsSt m c k
      -∗ (rsSt m c (k + 1) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (pM.slice (Rect.unit (s := S256x256) oS S32x256.size iS) (fun _ => rfl))
                (.remote (Dev.tc n : Thread nD τ) (rM.slice (Rect.unit (s := S256x256) oD S32x256.size iD) (fun _ => rfl)) (.dma sS) hsc) (.dma sR) hsrc hdst hsem) kk) Q) := by
  subst hoS hoD
  unfold rsSt owing
  rw [todo_take _ k hk, due_take _ k hk, ← add_assoc, finished_put _ k hk]
  unfold rsRes hasAny has owns
  iintro #HR ⟨⟨%W, HO⟩, ⟨⟨⟨%fs, %hfs, Hs⟩, ⟨%X, %fd, -, Hd⟩, HtS, HtR⟩, Hrest⟩, Hfin⟩ Hk
  iapply (wp_xfer m K c 0 1 ⟨k, hk⟩ (fw c ⟨k, hk⟩) (cut pM (fw c ⟨k, hk⟩)) (cut rM c) rfl fullShare fs fd n hn sS sR hS hR
    (by show _ ⊢ has c pM (fw c ⟨k, hk⟩) (blk (part m c) (fw c ⟨k, hk⟩)); rw [← hfs]; exact owns_intro _ _ _ _)
    (by show _ ⊢ has (fw c ⟨k, hk⟩) rM (fw (fw c ⟨k, hk⟩) (⟨k, hk⟩ : Fin 7).rev) (blk (part m (fw (fw c ⟨k, hk⟩) (⟨k, hk⟩ : Fin 7).rev)) (fw c ⟨k, hk⟩))
        rw [fw_fw_rev, ← hfs]
        refine (owns_intro _ _ _ _).trans (Entails.of_eq ?_)
        rw [View.read_write_univ]; rfl)
    (due (oweX 3 c) 0 + due (oweX 1 c) (k + 1)) W) $$ [HO Hs Hd HtS HtR]
  · isplitr; · iexact HR
    isplitl [Hs]; · iexact Hs
    isplitl [Hd]; · iexact Hd
    isplitl [HO]; · iexact HO
    isplitl [HtS] <;> iassumption
  iintro ⟨Hc, HO⟩
  iapply Hk
  isplitl [HO]; · iexists W; iexact HO
  isplitl [Hrest]; · iexact Hrest
  isplitl [Hc]; · unfold sent; iexact Hc
  iexact Hfin

/-- What transfer `k` of the sum spends: a share of the sum, where it goes, and the two tokens. -/
def agRes (k : Fin 7) : sProp 𝕄 :=
  iprop(sumShare m c k ∗ hasAny (F := F) (fw c k) oM c ∗ dutyTok ER (xCell 2 c k) 0 0 ∗ dutyTok ER (xCell 3 (fw c k) k) 0 0)
/-- Before transfer `k` of the sum. -/
def agSt (k : ℕ) : sProp 𝕄 := iprop(owing (F := F) c (due (oweX 3 c) k) ∗ todo (agRes m c) k ∗ finished (sent (F := F) c 2) k)

theorem step_ag (k : ℕ) (hk : k < 7) (n : Dev nD) (hn : n = fw c ⟨k, hk⟩) (sS sR : DmaSem sig) (hS : sS = xs 2 ⟨k, hk⟩) (hR : sR = xs 3 ⟨k, hk⟩)
    (oD : Fin 2 → ℕ) (hoD : oD = ![32 * c.val, 0]) {iD}
    {hsc} {hsrc} {hdst} {hsem} {Q : α → sProp 𝕄} {kk : PUnit → Prog (TpuEff nD τ sig (Elt F) Λ₀ .tc) α} :
    know m K ⊢ iprop(agSt m c k
      -∗ (agSt m c (k + 1) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma dM
                (.remote (Dev.tc n : Thread nD τ) (oM.slice (Rect.unit (s := S256x256) oD S32x256.size iD) (fun _ => rfl)) (.dma sS) hsc) (.dma sR) hsrc hdst hsem) kk) Q) := by
  subst hoD
  unfold agSt owing
  rw [todo_take _ k hk, due_take _ k hk, finished_put _ k hk]
  unfold agRes hasAny has owns
  iintro #HR ⟨⟨%W, HO⟩, ⟨⟨Hs, ⟨%X, %fd, -, Hd⟩, HtS, HtR⟩, Hrest⟩, Hfin⟩ Hk
  iapply (wp_xfer m K c 2 3 ⟨k, hk⟩ (fw c ⟨k, hk⟩) dM (cut oM c) rfl (Transfers.dealOf fullShare (Finset.univ : Finset (Fin 7)) ⟨k, hk⟩) (red m c) fd n hn sS sR hS hR
    (by show _ ⊢ sumShare m c ⟨k, hk⟩; unfold sumShare; rw [View.set_whole])
    (by show _ ⊢ has (fw c ⟨k, hk⟩) oM (fw (fw c ⟨k, hk⟩) (⟨k, hk⟩ : Fin 7).rev) (red m (fw (fw c ⟨k, hk⟩) (⟨k, hk⟩ : Fin 7).rev))
        rw [fw_fw_rev]
        refine (owns_intro _ _ _ _).trans (Entails.of_eq ?_)
        rw [View.read_write_univ]; rfl)
    (due (oweX 3 c) (k + 1)) W) $$ [HO Hs Hd HtS HtR]
  · isplitr; · iexact HR
    isplitl [Hs]; · unfold sumShare; rw [View.set_whole]; iexact Hs
    isplitl [Hd]; · iexact Hd
    isplitl [HO]; · iexact HO
    isplitl [HtS] <;> iassumption
  iintro ⟨Hc, HO⟩
  iapply Hk
  isplitl [HO]; · iexists W; iexact HO
  isplitl [Hrest]; · iexact Hrest
  isplitl [Hc]; · unfold sent; iexact Hc
  iexact Hfin

/-! ## The waits -/

/-- The wait on the barrier: the blocks `c` of the seven other devices' buffers. -/
theorem step_barrier (O : CellTallies nD τ sig Unit) (hO : Above 1 O) (w : ℕ) (hw : w = 7)
    {Q : α → sProp 𝕄} {kk : PUnit → Prog (TpuEff nD τ sig (Elt F) Λ₀ .tc) α} :
    know m K ⊢ iprop((owing (F := F) c O ∗ cred (tallyAt (barCell c) () 7) ∗ atPos ER (barCell c) 0 ∅ 0)
      -∗ ((owing (F := F) c O ∗ semVal (barCell c) 0
            ∗ (bigSep Finset.univ fun k => hasAny (F := F) (fw c k) rM c) ∗ (bigSep Finset.univ fun k => hasAny (F := F) (fw c k) oM c))
          -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS w) kk) Q) := by
  subst hw
  unfold owing
  iintro #HR ⟨⟨%W, HO⟩, Hc, Hat⟩ Hk
  iapply (Rounds.wp_wait_rest_token 𝒱₀ ER (sched m) (c : Thread nD τ) none (κ := K (c, none))
      (wpE_semWait_eq 𝒱₀ (c : Thread nD τ) none Set.univ) (Set.mem_univ _) () (O := O) (W := W) (R := 0) (m := 0) (T := ∅)
      ((Nat.zero_add _).trans (expect_bar m c).symm)) $$ [Hc HO Hat]
  · isplitr; · iapply (inv_of m K c none); iexact HR
    isplitl [Hc]; · iexact Hc
    isplitl [HO]; · iexact HO
    isplitr; · iapply (mayWait (F := F) 1 c (.reg barS) (le_of_eq (lv_cell c none)) O hO); iapply (levAts_of m K); iexact HR
    iexact Hat
  iintro ⟨HO, Hat, -, Hpay⟩
  have hrest : (bigSep ((sched m).duties ((c : Thread nD τ), SemLoc.reg barS) 0 \ ∅) fun d => (sched m).payload ((c : Thread nD τ), SemLoc.reg barS) 0 d)
      ⊢ iprop((bigSep Finset.univ fun k => hasAny (F := F) (fw c k) rM c) ∗ (bigSep Finset.univ fun k => hasAny (F := F) (fw c k) oM c)) :=
    Entails.of_eq ((rest_bar m c).trans (by unfold barPay; exact bigSep_sep' _ _ _))
  ihave Hp := hrest $$ Hpay
  imod (Rounds.cell_close ER (sched m) (Set.mem_univ (K (c, none))) (fun h => h) (R := 0 + 1) (duties_later m (barCell c))) $$ [Hat] with Hz
  · isplitr; · iapply (inv_of m K c none); iexact HR
    iexact Hat
  iapply Hk
  isplitl [HO]; · iexists _; iexact HO
  isplitl [Hz] <;> iassumption

/-- What the wait on transfer cell `(a, k)` spends; -/
def waitRes (a : Fin 4) (k : Fin 7) : sProp 𝕄 := iprop(cred (tallyAt (xCell a c k) () N) ∗ atPos ER (xCell a c k) 0 ∅ 0)
/-- what it leaves: the semaphore at zero, the cell closed, and what the transfer handed over. -/
def waitGot (a : Fin 4) (k : Fin 7) : sProp 𝕄 := iprop(semVal (xCell a c k) 0 ∗ xPay m c a k)
/-- Before wait `j` on family `a`, whose cells are waited on in the order `σ`, while `O` is owed. -/
def waitSt (a : Fin 4) (σ : Fin 7 → Fin 7) (O : CellTallies nD τ sig Unit) (j : ℕ) : sProp 𝕄 :=
  iprop(owing (F := F) c O ∗ todo (fun j => waitRes (F := F) c a (σ j)) j ∗ finished (fun j => waitGot m c a (σ j)) j)

theorem step_wait (a : Fin 4) (σ : Fin 7 → Fin 7) (O : CellTallies nD τ sig Unit) (n : ℕ) (hn : lv (cell c (some (a, 0))) () ≤ n) (hO : Above n O)
    (j : ℕ) (hj : j < 7) (s : DmaSem sig) (hs : s = xs a (σ ⟨j, hj⟩)) (src dst : Memref sig .tc .vmem S32x256 .f32) (hN : dst.view.dmaCredit = N)
    {hsrc} {hdst} {Q : α → sProp 𝕄} {kk : PUnit → Prog (TpuEff nD τ sig (Elt F) Λ₀ .tc) α} :
    know m K ⊢ iprop(waitSt m c a σ O j
      -∗ (waitSt m c a σ O (j + 1) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  subst hs
  unfold waitSt owing
  rw [todo_take _ j hj, finished_put _ j hj]
  generalize σ ⟨j, hj⟩ = k
  unfold waitRes waitGot
  iintro #HR ⟨⟨%W, HO⟩, ⟨⟨Hc, Hat⟩, Hrest⟩, Hfin⟩ Hk
  iapply (Rounds.wp_wait_rest_token 𝒱₀ ER (sched m) (c : Thread nD τ) none (κ := K (c, some (a, k)))
      (wpE_waitDma2_eq 𝒱₀ (c : Thread nD τ) none Set.univ) (Set.mem_univ _) () (O := O) (W := W) (R := 0) (m := 0) (T := ∅)
      ((Nat.zero_add _).trans (hN.trans (expect_x m c a k).symm))) $$ [Hc HO Hat]
  · isplitr; · iapply (inv_of m K c (some (a, k))); iexact HR
    isplitl [Hc]; · rw [hN]; iexact Hc
    isplitl [HO]; · iexact HO
    isplitr; · iapply (mayWait (F := F) n c (.dma (xs a k)) (by rw [show lv ((c : Thread nD τ), .dma (xs a k)) () = lv (cell c (some (a, 0))) () from (lv_cell c (some (a, k))).trans (lv_cell c (some (a, 0))).symm]; exact hn) O hO); iapply (levAts_of m K); iexact HR
    iexact Hat
  iintro ⟨HO, Hat, -, Hpay⟩
  have hrest : (bigSep ((sched m).duties ((c : Thread nD τ), SemLoc.dma (xs a k)) 0 \ ∅) fun d => (sched m).payload ((c : Thread nD τ), SemLoc.dma (xs a k)) 0 d) ⊢ xPay m c a k :=
    Entails.of_eq (rest_x m c a k)
  ihave Hp := hrest $$ Hpay
  imod (Rounds.cell_close ER (sched m) (Set.mem_univ (K (c, some (a, k)))) (fun h => h) (R := 0 + 1) (duties_later m (xCell a c k))) $$ [Hat] with Hz
  · isplitr; · iapply (inv_of m K c (some (a, k))); iexact HR
    iexact Hat
  iapply Hk
  isplitl [HO]; · iexists _; iexact HO
  isplitl [Hrest]; · iexact Hrest
  isplitl [Hz Hp]
  · isplitl [Hz] <;> iassumption
  iexact Hfin

/-! ## Loads and stores of a whole buffer -/

/-- A load that reads `X` from a buffer held whole. -/
theorem load_whole {sh : Shape} (M : Memref sig .tc .vmem sh .f32) (r : Rect sh) (f : M.view.ty.Contents (Elt F)) (X : Vec F r.shape .f32)
    (hX : M.view.readAt (Elt F) r.toLoadRect f = X) {hl}
    {Q : α → sProp 𝕄} {kk : Vec F r.shape .f32 → Prog (TpuEff nD τ sig (Elt F) Λ₀ .tc) α} :
    (M.view.loc (c : Thread nD τ) ↦{fullShare} f : sProp 𝕄)
      ⊢ iprop(((M.view.loc (c : Thread nD τ) ↦{fullShare} f) -∗ wp frame (wpE (defs₀ (F := F)) 𝒱₀ (c : Thread nD τ) none) Set.univ (kk X) Q)
          -∗ wp frame (wpE (defs₀ (F := F)) 𝒱₀ (c : Thread nD τ) none) Set.univ (.op (.load M r.toLoadRect hl) kk) Q) := by
  subst hX
  iintro H Hk
  iapply (wp_load 𝒱₀ (c : Thread nD τ) none Set.univ (m := M) (Finset.subset_univ _)) $$ H
  iintro H
  iapply Hk
  iexact H

/-- A store of `X` that leaves the whole buffer at `g`. -/
theorem store_whole {sh : Shape} (M : Memref sig .tc .vmem sh .f32) (r : Rect sh) (f g : M.view.ty.Contents (Elt F)) (X : Vec F r.shape .f32)
    (hX : (M.access r).write (Elt F) f X Finset.univ = g) {hx} {hm}
    {Q : α → sProp 𝕄} {kk : PUnit → Prog (TpuEff nD τ sig (Elt F) Λ₀ .tc) α} :
    (M.view.loc (c : Thread nD τ) ↦{fullShare} f : sProp 𝕄)
      ⊢ iprop(((M.view.loc (c : Thread nD τ) ↦{fullShare} g) -∗ wp frame (wpE (defs₀ (F := F)) 𝒱₀ (c : Thread nD τ) none) Set.univ (kk ⟨⟩) Q)
          -∗ wp frame (wpE (defs₀ (F := F)) 𝒱₀ (c : Thread nD τ) none) Set.univ (.op (.store M r X Finset.univ hx hm) kk) Q) := by
  subst hX
  iintro H Hk
  iapply (wp_store 𝒱₀ (c : Thread nD τ) none Set.univ (m := M) (r := r) (Mk := Finset.univ) (Finset.subset_univ _)) $$ H
  iintro H
  iapply Hk
  iexact H

/-! ## Loads and stores of a block -/

theorem load_block (M : Memref sig .tc .vmem S256x256 .f32) (d : Dev nD) (X : Vec F S32x256 .f32)
    (o : Fin 2 → ℕ) (ho : o = ![32 * d.val, 0]) {i} {hl} {Q : α → sProp 𝕄} {kk : Vec F S32x256 .f32 → Prog (TpuEff nD τ sig (Elt F) Λ₀ .tc) α} :
    (has c M d X : sProp 𝕄)
      ⊢ iprop((has c M d X -∗ wp frame (wpE (defs₀ (F := F)) 𝒱₀ (c : Thread nD τ) none) Set.univ (kk X) Q)
          -∗ wp frame (wpE (defs₀ (F := F)) 𝒱₀ (c : Thread nD τ) none) Set.univ
              (.op (.load M (Rect.unit (s := S256x256) o S32x256.size i).toLoadRect hl) kk) Q) := by
  subst ho
  unfold has owns
  iintro ⟨%f, %hf, H⟩ Hk
  iapply (wp_load_rect 𝒱₀ (c : Thread nD τ) none Set.univ (m := M) (r := row d) (S := (cut M d).view.set) (Finset.Subset.refl _)) $$ H
  iintro H
  subst hf
  iapply Hk
  iexists f
  isplitr; · ipureintro; rfl
  iexact H

theorem store_block (M : Memref sig .tc .vmem S256x256 .f32) (d : Dev nD) (X : Vec F S32x256 .f32)
    (o : Fin 2 → ℕ) (ho : o = ![32 * d.val, 0]) {i} {hx} {hm} {Q : α → sProp 𝕄} {kk : PUnit → Prog (TpuEff nD τ sig (Elt F) Λ₀ .tc) α} :
    (hasAny (F := F) c M d : sProp 𝕄)
      ⊢ iprop((has c M d X -∗ wp frame (wpE (defs₀ (F := F)) 𝒱₀ (c : Thread nD τ) none) Set.univ (kk ⟨⟩) Q)
          -∗ wp frame (wpE (defs₀ (F := F)) 𝒱₀ (c : Thread nD τ) none) Set.univ
              (.op (.store M (Rect.unit (s := S256x256) o S32x256.size i) X Finset.univ hx hm) kk) Q) := by
  subst ho
  unfold hasAny has owns
  iintro ⟨%Y, %f, -, H⟩ Hk
  iapply (wp_store 𝒱₀ (c : Thread nD τ) none Set.univ (m := M) (r := row d) (Mk := Finset.univ) (S := (cut M d).view.set) (Finset.Subset.refl _)) $$ H
  iintro H
  iapply Hk
  iexists _
  isplitr; · ipureintro; exact View.read_write_univ (v := (cut M d).view) f X
  iexact H

/-- The load of the block that has just arrived. -/
theorem load_arrived (O : CellTallies nD τ sig Unit) (j : ℕ) (hj : j < 7)
    (o : Fin 2 → ℕ) (ho : o = ![32 * (fw c ⟨j, hj⟩).val, 0]) {i} {hl} {Q : α → sProp 𝕄} {kk : Vec F S32x256 .f32 → Prog (TpuEff nD τ sig (Elt F) Λ₀ .tc) α} :
    (waitSt m c 1 Fin.rev O (j + 1) : sProp 𝕄)
      ⊢ iprop((waitSt m c 1 Fin.rev O (j + 1) -∗ wp frame (wpE (defs₀ (F := F)) 𝒱₀ (c : Thread nD τ) none) Set.univ (kk (term m c ⟨j, hj⟩)) Q)
          -∗ wp frame (wpE (defs₀ (F := F)) 𝒱₀ (c : Thread nD τ) none) Set.univ
              (.op (.load rM (Rect.unit (s := S256x256) o S32x256.size i).toLoadRect hl) kk) Q) := by
  unfold waitSt
  rw [finished_put _ j hj]
  have hp : (waitGot m c 1 (Fin.rev ⟨j, hj⟩) : sProp 𝕄) = iprop(semVal (xCell 1 c (Fin.rev ⟨j, hj⟩)) 0 ∗ has c rM (fw c ⟨j, hj⟩) (term m c ⟨j, hj⟩)) := by
    unfold waitGot xPay; dsimp only; rw [Fin.rev_rev]
  rw [hp]
  iintro ⟨HO, Ht, ⟨Hz, Hb⟩, Hf⟩ Hk
  iapply (load_block c rM (fw c ⟨j, hj⟩) (term m c ⟨j, hj⟩) o ho) $$ Hb
  iintro Hb
  iapply Hk
  isplitl [HO]; · iexact HO
  isplitl [Ht]; · iexact Ht
  isplitl [Hz Hb]
  · isplitl [Hz] <;> iassumption
  iexact Hf

end Steps

end Cert.Mlp

end
-- ==== Proof.Pieces.lean ====
/-
# Between the phases

A whole buffer is its eight blocks; the sum buffer is seven shares; a conjunction over the seven steps may be taken in either
direction. With these the state one phase ends in is regrouped into the state the next begins from.
-/
module

public import proofs.«01_k».proof.Proof.Steps

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Blocks -/

omit [FloatOps F] in
/-- A whole buffer taken apart: the block `c`, and the blocks of the seven devices after it. -/
theorem split_blocks (c : Dev nD) (M : Memref sig .tc .vmem S256x256 .f32) (X : Vec F S256x256 .f32) :
    (owns (c : Thread nD τ) M fullShare X : sProp 𝕄)
      ⊢ iprop(has c M c (blk X c) ∗ bigSep Finset.univ fun k => has c M (fw c k) (blk X (fw c k))) :=
  (owns_rects (c : Thread nD τ) M fullShare row (fun _ _ => rfl) row_disjoint row_cover X).trans
    (Entails.of_eq (bigSep_dev c fun j => has c M j (blk X j)))

omit [FloatOps F] in
/-- The same, what it holds forgotten. -/
theorem split_any (c : Dev nD) (M : Memref sig .tc .vmem S256x256 .f32) (X : Vec F S256x256 .f32) :
    (owns (c : Thread nD τ) M fullShare X : sProp 𝕄) ⊢ iprop(hasAny (F := F) c M c ∗ bigSep Finset.univ fun k => hasAny (F := F) c M (fw c k)) :=
  (split_blocks c M X).trans (BIClass.sep_mono (exists_intro (Φ := fun X => has c M c X) (blk X c))
    (bigSep_mono fun k _ => exists_intro (Φ := fun X => has c M (fw c k) X) (blk X (fw c k))))

/-- A whole buffer put together from its blocks. -/
theorem join_blocks (c : Dev nD) (M : Memref sig .tc .vmem S256x256 .f32) (X : Vec F S256x256 .f32) :
    iprop(has c M c (blk X c) ∗ bigSep Finset.univ fun k => has c M (fw c k) (blk X (fw c k)))
      ⊢ (owns (c : Thread nD τ) M fullShare X : sProp 𝕄) :=
  (Entails.of_eq (bigSep_dev c fun j => has c M j (blk X j)).symm).trans
    (owns_of_rects (c : Thread nD τ) M fullShare row (fun _ _ => rfl) row_disjoint row_cover X)

/-- The same from blocks holding anything. -/
theorem join_any (c : Dev nD) (M : Memref sig .tc .vmem S256x256 .f32) :
    iprop(hasAny (F := F) c M c ∗ bigSep Finset.univ fun k => hasAny (F := F) c M (fw c k))
      ⊢ (iprop(∃ X, owns (c : Thread nD τ) M fullShare X) : sProp 𝕄) := by
  refine (Entails.of_eq (bigSep_dev c fun j => hasAny (F := F) c M j).symm).trans ?_
  unfold hasAny
  haveI : Nonempty (Vec F S32x256 .f32) := ⟨fun _ => Classical.choice ((inferInstance : ∀ e, Nonempty (Elt F e)) .f32)⟩
  refine (BI.bigSep_exists_pi (Y := fun _ : Dev nD => Vec F S32x256 .f32) Finset.univ fun (j : Dev nD) (X : Vec F S32x256 .f32) => has (F := F) c M j X).trans ?_
  iintro ⟨%Y, H⟩
  iexists glue Y
  iapply (owns_of_rects (c : Thread nD τ) M fullShare row (fun _ _ => rfl) row_disjoint row_cover (glue Y))
  have h : (bigSep Finset.univ fun j => has (F := F) c M j (Y j)) ⊢ bigSep Finset.univ fun j => owns (c : Thread nD τ) (cut M j) fullShare (blk (glue Y) j) :=
    bigSep_mono fun j _ => Entails.of_eq (congrArg (fun X => has (F := F) c M j X) (blk_glue Y j).symm)
  iapply h
  iexact H

/-- The sum buffer in seven shares. -/
theorem deal_sum (c : Dev nD) :
    (((c : Thread nD τ).loc cc0_scratch2) ↦{fullShare} (red m c : (cc0_scratch2 : Ref sig .tc).ty.Contents (Elt F)) : sProp 𝕄)
      = bigSep Finset.univ fun k => sumShare m c k :=
  Transfers.pointsTo_deal Finset.univ ⟨0, Finset.mem_univ _⟩ fullShare

/-! ## Steps in either direction -/

/-- The seven steps taken backwards are the seven steps. -/
theorem bigSep_rev {M : Type} [URA M] (Φ : Fin 7 → sProp M) : bigSep Finset.univ (fun k : Fin 7 => Φ k.rev) = bigSep Finset.univ Φ :=
  (bigSep_univ_equiv Fin.revPerm Φ).symm

/-- A family of the four. -/
theorem bigSep_four {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

/-- All 28 transfer cells, by family. -/
theorem bigSep_cells {M : Type} [URA M] (Φ : Fin 4 × Fin 7 → sProp M) :
    bigSep Finset.univ Φ = iprop((bigSep Finset.univ fun k => Φ (0, k)) ∗ (bigSep Finset.univ fun k => Φ (1, k))
      ∗ (bigSep Finset.univ fun k => Φ (2, k)) ∗ (bigSep Finset.univ fun k => Φ (3, k))) :=
  (bigSep_univ_prod Φ).trans (bigSep_four fun a => bigSep Finset.univ fun k => Φ (a, k))

/-! ## Where the phases begin and end -/

section Ends
variable (c : Dev nD)

theorem sig_begin : iprop(owing (F := F) c (O₀ c) ∗ (bigSep Finset.univ fun k => dutyTok ER (barCell (fw c k)) 0 k.rev)
      ∗ (bigSep Finset.univ fun k => hasAny (F := F) c rM (fw c k)) ∗ (bigSep Finset.univ fun k => hasAny (F := F) c oM (fw c k)))
    ⊢ (sigSt (F := F) c 0 : sProp 𝕄) := by
  unfold sigSt O₀ sigRes
  rw [todo_zero, bigSep_sep', bigSep_sep']
theorem sig_end : (sigSt (F := F) c 7 : sProp 𝕄) ⊢ owing c (due (oweX 3 c) 0 + due (oweX 1 c) 0) := by
  unfold sigSt
  rw [due_seven, add_zero]
  iintro ⟨H, -⟩
  iexact H

theorem rs_begin : iprop(owing (F := F) c (due (oweX 3 c) 0 + due (oweX 1 c) 0)
      ∗ (bigSep Finset.univ fun k => has c pM (fw c k) (blk (part m c) (fw c k))) ∗ (bigSep Finset.univ fun k => hasAny (F := F) (fw c k) rM c)
      ∗ (bigSep Finset.univ fun k => dutyTok ER (xCell 0 c k) 0 0) ∗ (bigSep Finset.univ fun k => dutyTok ER (xCell 1 (fw c k) k) 0 0))
    ⊢ (rsSt m c 0 : sProp 𝕄) := by
  unfold rsSt rsRes
  rw [todo_zero, bigSep_sep', bigSep_sep', bigSep_sep', finished_zero]
  iintro ⟨H1, H2⟩
  isplitl [H1]; · iexact H1
  isplitl [H2]; · iexact H2
  iempintro
theorem rs_end : (rsSt m c 7 : sProp 𝕄) ⊢ iprop(owing c (due (oweX 3 c) 0) ∗ bigSep Finset.univ fun k => sent (F := F) c 0 k) := by
  unfold rsSt
  rw [due_seven, add_zero, finished_seven]
  iintro ⟨H, -, H'⟩
  isplitl [H] <;> iassumption

theorem ag_begin : iprop(owing (F := F) c (due (oweX 3 c) 0)
      ∗ (bigSep Finset.univ fun k => sumShare m c k) ∗ (bigSep Finset.univ fun k => hasAny (F := F) (fw c k) oM c)
      ∗ (bigSep Finset.univ fun k => dutyTok ER (xCell 2 c k) 0 0) ∗ (bigSep Finset.univ fun k => dutyTok ER (xCell 3 (fw c k) k) 0 0))
    ⊢ (agSt m c 0 : sProp 𝕄) := by
  unfold agSt agRes
  rw [todo_zero, bigSep_sep', bigSep_sep', bigSep_sep', finished_zero]
  iintro ⟨H1, H2⟩
  isplitl [H1]; · iexact H1
  isplitl [H2]; · iexact H2
  iempintro
theorem ag_end : (agSt m c 7 : sProp 𝕄) ⊢ iprop(owing c 0 ∗ bigSep Finset.univ fun k => sent (F := F) c 2 k) := by
  unfold agSt
  rw [due_seven, finished_seven]
  iintro ⟨H, -, H'⟩
  isplitl [H] <;> iassumption

/-- What all the waits of a family leave. -/
def allGot (a : Fin 4) : sProp 𝕄 := iprop((bigSep Finset.univ fun k => semVal (xCell a c k) 0) ∗ bigSep Finset.univ fun k => xPay m c a k)

variable (a : Fin 4) (O : CellTallies nD τ sig Unit)

theorem wait_begin : iprop(owing (F := F) c O ∗ (bigSep Finset.univ fun k => sent (F := F) c a k) ∗ (bigSep Finset.univ fun k => atPos ER (xCell a c k) 0 ∅ 0))
    ⊢ (waitSt m c a id O 0 : sProp 𝕄) := by
  unfold waitSt waitRes sent
  rw [todo_zero, bigSep_sep', finished_zero]
  iintro ⟨H1, H2⟩
  isplitl [H1]; · iexact H1
  isplitl [H2]; · iexact H2
  iempintro
theorem wait_end : (waitSt m c a id O 7 : sProp 𝕄) ⊢ iprop(owing c O ∗ allGot m c a) := by
  unfold waitSt
  rw [finished_seven]
  unfold allGot waitGot
  simp only [id]
  rw [bigSep_sep']
  iintro ⟨H, -, H'⟩
  isplitl [H] <;> iassumption
theorem wait_begin_rev : iprop(owing (F := F) c O ∗ (bigSep Finset.univ fun k => sent (F := F) c a k) ∗ (bigSep Finset.univ fun k => atPos ER (xCell a c k) 0 ∅ 0))
    ⊢ (waitSt m c a Fin.rev O 0 : sProp 𝕄) := by
  unfold waitSt
  rw [todo_zero, bigSep_rev (waitRes c a), finished_zero]
  unfold waitRes sent
  rw [bigSep_sep']
  iintro ⟨H1, H2⟩
  isplitl [H1]; · iexact H1
  isplitl [H2]; · iexact H2
  iempintro
theorem wait_end_rev : (waitSt m c a Fin.rev O 7 : sProp 𝕄) ⊢ iprop(owing c O ∗ allGot m c a) := by
  unfold waitSt
  rw [finished_seven, bigSep_rev (waitGot m c a)]
  unfold allGot waitGot
  rw [bigSep_sep']
  iintro ⟨H, -, H'⟩
  isplitl [H] <;> iassumption

end Ends

end Cert.Mlp

end
-- ==== Proof.Body.lean ====
/-
# The body of the kernel on one device

The body is executed once, an operation at a time, from what the launch gives a device to what it returns: the result holding
every device's sum, the scratch buffers, and every semaphore back at zero.
-/
module

public import proofs.«01_k».proof.Proof.Pieces

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The program's devices, offsets and whole-buffer accesses -/

/-- A device computed by the program as `c + k + 1` mod 8. -/
theorem dev_fw (c : Dev nD) (k : Fin 7) (v : ℕ) (hv : v < nD) (h : v = (c.val + k.val + 1) % 8) : (⟨v, hv⟩ : Dev nD) = fw c k := Fin.ext h

theorem off2 (c : Dev nD) (k : Fin 7) : k0_off2 c (BitVec.ofNat 32 (1 + k.val)) = ![32 * (fw c k).val, 0] := k0_off2_eq c k
theorem off4 (c : Dev nD) (k : Fin 7) : k0_off4 c (BitVec.ofNat 32 (1 + k.val)) = ![32 * (fw c k).val, 0] := k0_off4_eq c k

theorem zero_offset : (![0, 0] : Fin 2 → Nat) = fun _ => 0 := funext fun a => by fin_cases a <;> rfl

theorem lv_one (c : Dev nD) : lv (cell c (some (1, 0))) () ≤ 2 := by rw [lv_cell]; decide
theorem lv_three (c : Dev nD) : lv (cell c (some (3, 0))) () ≤ 3 := by rw [lv_cell]; decide

/-- What is stored in the sum buffer is the sum. -/
theorem sum_stored (c : Dev nD) : k0_pay6 (acc6 m c) (term m c 5) (term m c 6) = red m c := by
  unfold k0_pay6 red; exact shapeCast_self _ _

theorem sum_write (c : Dev nD) (f : Vec F S32x256 .f32) :
    (dM.access (Rect.unit (s := S32x256) ![0, 0] S32x256.size inb_S32x256_S32x256_0_0)).write (Elt F) f (k0_pay6 (acc6 m c) (term m c 5) (term m c 6)) Finset.univ
      = red m c := by
  rw [sum_stored]; exact Memref.write_access_unit_zero_univ (Elt F) cc0_scratch2 zero_offset _ f (red m c)

/-! ## The buffers whole again -/

section Whole
variable (c : Dev nD)

abbrev someOf (c : Dev nD) (b : Ref sig .tc) : sProp 𝕄 := iprop(∃ f : Buf (Elt F) (((c : Dev nD) : Thread nD τ).loc b), ((c : Thread nD τ).loc b) ↦{fullShare} f)

theorem whole_part : iprop(has c pM c (blk (part m c) c) ∗ bigSep Finset.univ fun k => xPay m c 0 k) ⊢ someOf (F := F) c cc0_scratch0 := by
  refine (join_blocks c pM (part m c)).trans ?_
  refine (Entails.of_eq (owns_whole (c : Thread nD τ) cc0_scratch0 fullShare (part m c))).trans ?_
  exact exists_intro (Φ := fun f : Buf (Elt F) ((c : Thread nD τ).loc cc0_scratch0) => iprop(((c : Thread nD τ).loc cc0_scratch0) ↦{fullShare} f)) (part m c)

theorem whole_arrived (X : Vec F S32x256 .f32) :
    iprop(has c rM c X ∗ bigSep Finset.univ fun k => xPay m c 1 k) ⊢ someOf (F := F) c cc0_scratch1 := by
  have h1 : (has c rM c X : sProp 𝕄) ⊢ hasAny (F := F) c rM c := exists_intro (Φ := fun X => has c rM c X) X
  have h2 : (bigSep Finset.univ fun k => xPay m c 1 k) ⊢ (bigSep Finset.univ fun k => hasAny (F := F) c rM (fw c k) : sProp 𝕄) :=
    (Entails.of_eq (bigSep_rev fun k => has c rM (fw c k) (term m c k))).trans
      (bigSep_mono fun k _ => exists_intro (Φ := fun X => has c rM (fw c k) X) (term m c k))
  refine ((BIClass.sep_mono h1 h2).trans (join_any c rM)).trans ?_
  iintro ⟨%Y, H⟩
  iexists Y
  iapply (Entails.of_eq (owns_whole (c : Thread nD τ) cc0_scratch1 fullShare Y))
  iexact H

theorem whole_sum : (bigSep Finset.univ fun k => xPay m c 2 k) ⊢ someOf (F := F) c cc0_scratch2 := by
  refine (Entails.of_eq (deal_sum m c).symm).trans ?_
  exact exists_intro (Φ := fun f : Buf (Elt F) ((c : Thread nD τ).loc cc0_scratch2) => iprop(((c : Thread nD τ).loc cc0_scratch2) ↦{fullShare} f)) (red m c)

theorem whole_result : iprop(has c oM c (red m c) ∗ bigSep Finset.univ fun k => xPay m c 3 k)
    ⊢ (((c : Thread nD τ).loc cc0_stg3_0) ↦{fullShare} (outV m : (cc0_stg3_0 : Ref sig .tc).ty.Contents (Elt F)) : sProp 𝕄) := by
  have h1 : (has c oM c (red m c) : sProp 𝕄) ⊢ has c oM c (blk (outV m) c) := Entails.of_eq (by rw [blk_outV])
  have h2 : (bigSep Finset.univ fun k => xPay m c 3 k) ⊢ (bigSep Finset.univ fun k => has c oM (fw c k) (blk (outV m) (fw c k)) : sProp 𝕄) :=
    (Entails.of_eq (bigSep_rev fun k => has c oM (fw c k) (red m (fw c k)))).trans
      (Entails.of_eq (bigSep_congr fun k _ => by rw [blk_outV]))
  exact ((BIClass.sep_mono h1 h2).trans (join_blocks c oM (outV m))).trans
    (Entails.of_eq (owns_whole (c : Thread nD τ) cc0_stg3_0 fullShare (outV m)))

end Whole

/-! ## The pipeline's proof data -/

/-- What device `c` starts with, given the names `K` of the cells' invariants: what every device knows; where it stands on its
    29 cells; and the duties it is to pay: a unit of each other device's barrier, its own sends, the others' arrivals. -/
def ghost (K : Dev nD × Slot → ℕ) (c : Dev nD) : sProp 𝕄 :=
  iprop(know m K ∗ atPos ER (barCell c) 0 ∅ 0 ∗ (bigSep Finset.univ fun ak : Fin 4 × Fin 7 => atPos ER (xCell ak.1 c ak.2) 0 ∅ 0)
    ∗ (bigSep Finset.univ fun k => dutyTok ER (barCell (fw c k)) 0 k.rev)
    ∗ (bigSep Finset.univ fun k => dutyTok ER (xCell 0 c k) 0 0) ∗ (bigSep Finset.univ fun k => dutyTok ER (xCell 1 (fw c k) k) 0 0)
    ∗ (bigSep Finset.univ fun k => dutyTok ER (xCell 2 c k) 0 0) ∗ (bigSep Finset.univ fun k => dutyTok ER (xCell 3 (fw c k) k) 0 0))

/-- That under some names, with the units it is to receive: its barrier's and its arrivals'. -/
def start (c : Dev nD) : sProp 𝕄 :=
  iprop((∃ K, ghost m K c) ∗ cred (tallyAt (barCell c) () 7)
    ∗ (bigSep Finset.univ fun k => sent (F := F) c 1 k) ∗ (bigSep Finset.univ fun k => sent (F := F) c 3 k))

/-- The scratch buffers, holding anything. -/
def scratch (c : Dev nD) : sProp 𝕄 := iprop(someOf (F := F) c cc0_scratch0 ∗ someOf (F := F) c cc0_scratch1 ∗ someOf (F := F) c cc0_scratch2)

def Φ₀ (c : Dev nD) : sProp 𝕄 := iprop(start m c ∗ scratch (F := F) c)
/-- At the end: the scratch buffers, and every semaphore at zero. -/
def Φ₁ (c : Dev nD) : sProp 𝕄 :=
  iprop(scratch (F := F) c ∗ (bigSep Finset.univ fun ak : Fin 4 × Fin 7 => semVal (xCell ak.1 c ak.2) 0) ∗ semVal (barCell c) 0)

def dats (_ : Fin 1) (c : Dev nD) : Pipeline.Dat τ (Elt F) Unit ℕ UU ℕ cfg0 c where
  A w := m ((cfg0.win w).arr.view.loc (c : Thread nD τ))
  after w _ := match w with
    | ⟨0, _⟩ => xin m c
    | ⟨1, _⟩ => w1in m c
    | ⟨2, _⟩ => w2in m c
    | ⟨3, _⟩ => outV m
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost (c : Dev nD) : sProp 𝕄 :=
  iprop(Φ₁ c ∗ (dats m 0 c).owesAt () t0_0.succ ∗ stg c cc0_stg0_0 (xin m c) ∗ stg c cc0_stg1_0 (w1in m c) ∗ stg c cc0_stg2_0 (w2in m c) ∗ stg c cc0_stg3_0 (outV m))

set_option maxHeartbeats 4000000 in
/-- The body, executed in program order. -/
theorem sound_body (c : Dev nD) (Kt : PUnit → sProp 𝕄) :
    iprop(bodyPre m c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton]
  unfold k0_part1_skel k0_part2_skel k0_part3_skel k0_part4_skel k0_part5_skel k0_part6_skel k0_part7_skel
    k0_part8_skel k0_part9_skel k0_part10_skel k0_part11_skel k0_part12_skel k0_part13_skel k0_part14_skel
  simp only [semSignalWord, semWaitWord, Prog.lift, Prog.bind_op, Prog.bind_ret, Prog.pure_eq_ret, wp_deviceId]
  unfold bodyPre Φ₀ start ghost scratch
  rw [bigSep_cells]
  iintro ⟨⟨⟨⟨⟨%K, #HR, HatB, ⟨Hat0, Hat1, Hat2, Hat3⟩, HtB, Ht0, Ht1, Ht2, Ht3⟩, HcB, Hc1, Hc3⟩, ⟨%fp, Hp⟩, ⟨%fr, Hr⟩, ⟨%fd, Hd⟩⟩,
    Ho, ⟨%d0, %g0, %hg0, Hx⟩, ⟨%d1, %g1, %hg1, Hw1⟩, ⟨%d2, %g2, %hg2, Hw2⟩, ⟨%d3, %g3, %hg3, Hout⟩⟩, Hk⟩
  have hx : g0 = xin m c := by rw [hg0]; unfold Pipeline.Dat.before; rw [if_pos (fetch0_0 t0_0)]; rfl
  have hw1 : g1 = w1in m c := by rw [hg1]; unfold Pipeline.Dat.before; rw [if_pos (fetch0_1 t0_0)]; rfl
  have hw2 : g2 = w2in m c := by rw [hg2]; unfold Pipeline.Dat.before; rw [if_pos (fetch0_2 t0_0)]; rfl
  clear hg0 hg1 hg2
  subst hx hw1 hw2
  unfold Pipeline.Dat.owesAt Pipeline.owesWithin
  icases Ho with ⟨%W, %hW, HO⟩
  -- the blocks of the arrival buffer and of the result
  ihave Hr := ((Entails.of_eq (owns_whole (c : Thread nD τ) cc0_scratch1 fullShare fr).symm).trans (split_any c rM fr)) $$ Hr
  icases Hr with ⟨HrC, HrK⟩
  ihave Hout := ((Entails.of_eq (owns_whole (c : Thread nD τ) cc0_stg3_0 fullShare g3).symm).trans (split_any c oM g3)) $$ Hout
  icases Hout with ⟨HoC, HoK⟩
  -- the signals
  ihave HS : sigSt c 0 $$ [HO HtB HrK HoK]
  · iapply (sig_begin c)
    isplitl [HO]; · unfold owing; iexists W; iexact HO
    isplitl [HtB]; · iexact HtB
    isplitl [HrK] <;> iassumption
  iapply (step_signal m K c 0 (by decide) _ (dev_fw c 0 _ _ (k0_dev1_eq c)) _ rfl) $$ HR HS; iintro HS
  iapply (step_signal m K c 1 (by decide) _ (dev_fw c 1 _ _ (k0_dev2_eq c)) _ rfl) $$ HR HS; iintro HS
  iapply (step_signal m K c 2 (by decide) _ (dev_fw c 2 _ _ (k0_dev3_eq c)) _ rfl) $$ HR HS; iintro HS
  iapply (step_signal m K c 3 (by decide) _ (dev_fw c 3 _ _ (k0_dev4_eq c)) _ rfl) $$ HR HS; iintro HS
  iapply (step_signal m K c 4 (by decide) _ (dev_fw c 4 _ _ (k0_dev5_eq c)) _ rfl) $$ HR HS; iintro HS
  iapply (step_signal m K c 5 (by decide) _ (dev_fw c 5 _ _ (k0_dev6_eq c)) _ rfl) $$ HR HS; iintro HS
  iapply (step_signal m K c 6 (by decide) _ (dev_fw c 6 _ _ (k0_dev7_eq c)) _ rfl) $$ HR HS; iintro HS
  ihave HO := (sig_end c) $$ HS
  -- the partial product
  iapply (load_whole c xM _ (xin m c) (xin m c) (Memref.readAt_unit_zero (Elt F) cc0_stg0_0 zero_offset _ (xin m c))) $$ Hx; iintro Hx
  iapply (load_whole c w1M _ (w1in m c) (w1in m c) (Memref.readAt_unit_zero (Elt F) cc0_stg1_0 zero_offset _ (w1in m c))) $$ Hw1; iintro Hw1
  iapply (load_whole c w2M _ (w2in m c) (w2in m c) (Memref.readAt_unit_zero (Elt F) cc0_stg2_0 zero_offset _ (w2in m c))) $$ Hw2; iintro Hw2
  iapply (load_whole c pM _ fp fp (Memref.readAt_unit_zero (Elt F) cc0_scratch0 zero_offset _ fp)) $$ Hp; iintro Hp
  iapply (store_whole c pM _ fp (part m c) (part m c) (Memref.write_access_unit_zero_univ (Elt F) cc0_scratch0 zero_offset _ fp (part m c))) $$ Hp; iintro Hp
  ihave Hp := ((Entails.of_eq (owns_whole (c : Thread nD τ) cc0_scratch0 fullShare (part m c)).symm).trans (split_blocks c pM (part m c))) $$ Hp
  icases Hp with ⟨HpC, HpK⟩
  -- the wait on the barrier
  iapply (step_barrier m K c (due (oweX 3 c) 0 + due (oweX 1 c) 0) (above_add 1 _ _ (above_three 1 (by decide) c 0) (above_one 1 (by decide) c 0)) _ rfl) $$ HR [HO HcB HatB]
  · isplitl [HO]; · iexact HO
    isplitl [HcB] <;> iassumption
  iintro ⟨HO, HzB, HrN, HoN⟩
  -- the transfers of the partial product
  ihave HS : rsSt m c 0 $$ [HO HpK HrN Ht0 Ht1]
  · iapply (rs_begin m c)
    isplitl [HO]; · iexact HO
    isplitl [HpK]; · iexact HpK
    isplitl [HrN]; · iexact HrN
    isplitl [Ht0] <;> iassumption
  iapply (step_rs m K c 0 (by decide) _ (dev_fw c 0 _ _ (k0_dev8_eq c)) _ _ rfl rfl _ _ (off2 c 0) (k0_off1_eq c)) $$ HR HS; iintro HS
  iapply (step_rs m K c 1 (by decide) _ (dev_fw c 1 _ _ (k0_dev9_eq c)) _ _ rfl rfl _ _ (off2 c 1) (k0_off1_eq c)) $$ HR HS; iintro HS
  iapply (step_rs m K c 2 (by decide) _ (dev_fw c 2 _ _ (k0_dev10_eq c)) _ _ rfl rfl _ _ (off2 c 2) (k0_off1_eq c)) $$ HR HS; iintro HS
  iapply (step_rs m K c 3 (by decide) _ (dev_fw c 3 _ _ (k0_dev11_eq c)) _ _ rfl rfl _ _ (off2 c 3) (k0_off1_eq c)) $$ HR HS; iintro HS
  iapply (step_rs m K c 4 (by decide) _ (dev_fw c 4 _ _ (k0_dev12_eq c)) _ _ rfl rfl _ _ (off2 c 4) (k0_off1_eq c)) $$ HR HS; iintro HS
  iapply (step_rs m K c 5 (by decide) _ (dev_fw c 5 _ _ (k0_dev13_eq c)) _ _ rfl rfl _ _ (off2 c 5) (k0_off1_eq c)) $$ HR HS; iintro HS
  iapply (step_rs m K c 6 (by decide) _ (dev_fw c 6 _ _ (k0_dev14_eq c)) _ _ rfl rfl _ _ (off2 c 6) (k0_off1_eq c)) $$ HR HS; iintro HS
  ihave HS := (rs_end m c) $$ HS
  icases HS with ⟨HO, Hc0⟩
  -- the device's own block
  iapply (load_block c pM c (blk (part m c) c) _ (k0_off3_eq c)) $$ HpC; iintro HpC
  unfold hasAny
  icases HrC with ⟨%X, HrC⟩
  iapply (load_block c rM c X _ (k0_off3_eq c)) $$ HrC; iintro HrC
  ihave HrC : hasAny c rM c $$ [HrC]
  · unfold hasAny; iexists X; iexact HrC
  iapply (store_block c rM c (k0_pay2 (blk (part m c) c)) _ (k0_off3_eq c)) $$ HrC; iintro HrC
  iapply (load_block c rM c (k0_pay2 (blk (part m c) c)) _ (k0_off3_eq c)) $$ HrC; iintro HrC
  -- the arrivals of the partial products, each added as it comes
  ihave HS : waitSt m c 1 Fin.rev (due (oweX 3 c) 0) 0 $$ [HO Hc1 Hat1]
  · iapply (wait_begin_rev m c 1 (due (oweX 3 c) 0))
    isplitl [HO]; · iexact HO
    isplitl [Hc1] <;> iassumption
  iapply (step_wait m K c 1 Fin.rev (due (oweX 3 c) 0) 2 (lv_one c) (above_three 2 (by decide) c 0) 0 (by decide) _ rfl _ _ (credit_r _ _)) $$ HR HS; iintro HS
  iapply (load_arrived m c (due (oweX 3 c) 0) 0 (by decide) _ (off4 c 0)) $$ HS; iintro HS
  iapply (step_wait m K c 1 Fin.rev (due (oweX 3 c) 0) 2 (lv_one c) (above_three 2 (by decide) c 0) 1 (by decide) _ rfl _ _ (credit_r _ _)) $$ HR HS; iintro HS
  iapply (load_arrived m c (due (oweX 3 c) 0) 1 (by decide) _ (off4 c 1)) $$ HS; iintro HS
  iapply (step_wait m K c 1 Fin.rev (due (oweX 3 c) 0) 2 (lv_one c) (above_three 2 (by decide) c 0) 2 (by decide) _ rfl _ _ (credit_r _ _)) $$ HR HS; iintro HS
  iapply (load_arrived m c (due (oweX 3 c) 0) 2 (by decide) _ (off4 c 2)) $$ HS; iintro HS
  iapply (step_wait m K c 1 Fin.rev (due (oweX 3 c) 0) 2 (lv_one c) (above_three 2 (by decide) c 0) 3 (by decide) _ rfl _ _ (credit_r _ _)) $$ HR HS; iintro HS
  iapply (load_arrived m c (due (oweX 3 c) 0) 3 (by decide) _ (off4 c 3)) $$ HS; iintro HS
  iapply (step_wait m K c 1 Fin.rev (due (oweX 3 c) 0) 2 (lv_one c) (above_three 2 (by decide) c 0) 4 (by decide) _ rfl _ _ (credit_r _ _)) $$ HR HS; iintro HS
  iapply (load_arrived m c (due (oweX 3 c) 0) 4 (by decide) _ (off4 c 4)) $$ HS; iintro HS
  iapply (step_wait m K c 1 Fin.rev (due (oweX 3 c) 0) 2 (lv_one c) (above_three 2 (by decide) c 0) 5 (by decide) _ rfl _ _ (credit_r _ _)) $$ HR HS; iintro HS
  iapply (load_arrived m c (due (oweX 3 c) 0) 5 (by decide) _ (off4 c 5)) $$ HS; iintro HS
  iapply (step_wait m K c 1 Fin.rev (due (oweX 3 c) 0) 2 (lv_one c) (above_three 2 (by decide) c 0) 6 (by decide) _ rfl _ _ (credit_r _ _)) $$ HR HS; iintro HS
  iapply (load_arrived m c (due (oweX 3 c) 0) 6 (by decide) _ (off4 c 6)) $$ HS; iintro HS
  ihave HS := (wait_end_rev m c 1 (due (oweX 3 c) 0)) $$ HS
  icases HS with ⟨HO, HG1⟩
  -- the sum, stored and dealt out
  iapply (load_whole c dM _ fd fd (Memref.readAt_unit_zero (Elt F) cc0_scratch2 zero_offset _ fd)) $$ Hd; iintro Hd
  iapply (store_whole c dM _ fd (red m c) _ (sum_write m c fd)) $$ Hd; iintro Hd
  ihave Hd := (Entails.of_eq (deal_sum m c)) $$ Hd
  -- the transfers of the sum
  ihave HS : agSt m c 0 $$ [HO Hd HoN Ht2 Ht3]
  · iapply (ag_begin m c)
    isplitl [HO]; · iexact HO
    isplitl [Hd]; · iexact Hd
    isplitl [HoN]; · unfold hasAny; iexact HoN
    isplitl [Ht2] <;> iassumption
  iapply (step_ag m K c 0 (by decide) _ (dev_fw c 0 _ _ (k0_dev15_eq c)) _ _ rfl rfl _ (k0_off1_eq c)) $$ HR HS; iintro HS
  iapply (step_ag m K c 1 (by decide) _ (dev_fw c 1 _ _ (k0_dev16_eq c)) _ _ rfl rfl _ (k0_off1_eq c)) $$ HR HS; iintro HS
  iapply (step_ag m K c 2 (by decide) _ (dev_fw c 2 _ _ (k0_dev17_eq c)) _ _ rfl rfl _ (k0_off1_eq c)) $$ HR HS; iintro HS
  iapply (step_ag m K c 3 (by decide) _ (dev_fw c 3 _ _ (k0_dev18_eq c)) _ _ rfl rfl _ (k0_off1_eq c)) $$ HR HS; iintro HS
  iapply (step_ag m K c 4 (by decide) _ (dev_fw c 4 _ _ (k0_dev19_eq c)) _ _ rfl rfl _ (k0_off1_eq c)) $$ HR HS; iintro HS
  iapply (step_ag m K c 5 (by decide) _ (dev_fw c 5 _ _ (k0_dev20_eq c)) _ _ rfl rfl _ (k0_off1_eq c)) $$ HR HS; iintro HS
  iapply (step_ag m K c 6 (by decide) _ (dev_fw c 6 _ _ (k0_dev21_eq c)) _ _ rfl rfl _ (k0_off1_eq c)) $$ HR HS; iintro HS
  ihave HS := (ag_end m c) $$ HS
  icases HS with ⟨HO, Hc2⟩
  -- the device's own block of the result
  icases HoC with ⟨%Y, HoC⟩
  iapply (load_block c oM c Y _ (k0_off3_eq c)) $$ HoC; iintro HoC
  ihave HoC : hasAny c oM c $$ [HoC]
  · unfold hasAny; iexists Y; iexact HoC
  iapply (store_block c oM c (red m c) _ (k0_off3_eq c)) $$ HoC; iintro HoC
  -- the arrivals of the sums
  ihave HS : waitSt m c 3 Fin.rev 0 0 $$ [HO Hc3 Hat3]
  · iapply (wait_begin_rev m c 3 0)
    isplitl [HO]; · iexact HO
    isplitl [Hc3] <;> iassumption
  iapply (step_wait m K c 3 Fin.rev 0 3 (lv_three c) (above_zero 3) 0 (by decide) _ rfl _ _ (credit_o _ _)) $$ HR HS; iintro HS
  iapply (step_wait m K c 3 Fin.rev 0 3 (lv_three c) (above_zero 3) 1 (by decide) _ rfl _ _ (credit_o _ _)) $$ HR HS; iintro HS
  iapply (step_wait m K c 3 Fin.rev 0 3 (lv_three c) (above_zero 3) 2 (by decide) _ rfl _ _ (credit_o _ _)) $$ HR HS; iintro HS
  iapply (step_wait m K c 3 Fin.rev 0 3 (lv_three c) (above_zero 3) 3 (by decide) _ rfl _ _ (credit_o _ _)) $$ HR HS; iintro HS
  iapply (step_wait m K c 3 Fin.rev 0 3 (lv_three c) (above_zero 3) 4 (by decide) _ rfl _ _ (credit_o _ _)) $$ HR HS; iintro HS
  iapply (step_wait m K c 3 Fin.rev 0 3 (lv_three c) (above_zero 3) 5 (by decide) _ rfl _ _ (credit_o _ _)) $$ HR HS; iintro HS
  iapply (step_wait m K c 3 Fin.rev 0 3 (lv_three c) (above_zero 3) 6 (by decide) _ rfl _ _ (credit_o _ _)) $$ HR HS; iintro HS
  ihave HS := (wait_end_rev m c 3 0) $$ HS
  icases HS with ⟨HO, HG3⟩
  -- the departures of the partial product
  ihave HS : waitSt m c 0 id 0 0 $$ [HO Hc0 Hat0]
  · iapply (wait_begin m c 0 0)
    isplitl [HO]; · iexact HO
    isplitl [Hc0] <;> iassumption
  iapply (step_wait m K c 0 id 0 _ le_rfl (above_zero _) 0 (by decide) _ rfl _ _ (credit_p _ _)) $$ HR HS; iintro HS
  iapply (step_wait m K c 0 id 0 _ le_rfl (above_zero _) 1 (by decide) _ rfl _ _ (credit_p _ _)) $$ HR HS; iintro HS
  iapply (step_wait m K c 0 id 0 _ le_rfl (above_zero _) 2 (by decide) _ rfl _ _ (credit_p _ _)) $$ HR HS; iintro HS
  iapply (step_wait m K c 0 id 0 _ le_rfl (above_zero _) 3 (by decide) _ rfl _ _ (credit_p _ _)) $$ HR HS; iintro HS
  iapply (step_wait m K c 0 id 0 _ le_rfl (above_zero _) 4 (by decide) _ rfl _ _ (credit_p _ _)) $$ HR HS; iintro HS
  iapply (step_wait m K c 0 id 0 _ le_rfl (above_zero _) 5 (by decide) _ rfl _ _ (credit_p _ _)) $$ HR HS; iintro HS
  iapply (step_wait m K c 0 id 0 _ le_rfl (above_zero _) 6 (by decide) _ rfl _ _ (credit_p _ _)) $$ HR HS; iintro HS
  ihave HS := (wait_end m c 0 0) $$ HS
  icases HS with ⟨HO, HG0⟩
  -- the departures of the sum
  ihave HS : waitSt m c 2 id 0 0 $$ [HO Hc2 Hat2]
  · iapply (wait_begin m c 2 0)
    isplitl [HO]; · iexact HO
    isplitl [Hc2] <;> iassumption
  iapply (step_wait m K c 2 id 0 _ le_rfl (above_zero _) 0 (by decide) _ rfl _ _ credit_d) $$ HR HS; iintro HS
  iapply (step_wait m K c 2 id 0 _ le_rfl (above_zero _) 1 (by decide) _ rfl _ _ credit_d) $$ HR HS; iintro HS
  iapply (step_wait m K c 2 id 0 _ le_rfl (above_zero _) 2 (by decide) _ rfl _ _ credit_d) $$ HR HS; iintro HS
  iapply (step_wait m K c 2 id 0 _ le_rfl (above_zero _) 3 (by decide) _ rfl _ _ credit_d) $$ HR HS; iintro HS
  iapply (step_wait m K c 2 id 0 _ le_rfl (above_zero _) 4 (by decide) _ rfl _ _ credit_d) $$ HR HS; iintro HS
  iapply (step_wait m K c 2 id 0 _ le_rfl (above_zero _) 5 (by decide) _ rfl _ _ credit_d) $$ HR HS; iintro HS
  iapply (step_wait m K c 2 id 0 _ le_rfl (above_zero _) 6 (by decide) _ rfl _ _ credit_d) $$ HR HS; iintro HS
  ihave HS := (wait_end m c 2 0) $$ HS
  icases HS with ⟨HO, HG2⟩
  rw [wp_ret]; imodintro
  iapply Hk
  -- everything whole again
  unfold allGot
  icases HG0 with ⟨Hz0, HG0⟩
  icases HG1 with ⟨Hz1, HG1⟩
  icases HG2 with ⟨Hz2, HG2⟩
  icases HG3 with ⟨Hz3, HG3⟩
  ihave Hp := (whole_part m c) $$ [HpC HG0]
  · isplitl [HpC] <;> iassumption
  ihave Hr := (whole_arrived m c (k0_pay2 (blk (part m c) c))) $$ [HrC HG1]
  · isplitl [HrC] <;> iassumption
  ihave Hd := (whole_sum m c) $$ HG2
  ihave Hout := (whole_result m c) $$ [HoC HG3]
  · isplitl [HoC] <;> iassumption
  unfold bodyPost Φ₁ scratch Pipeline.Dat.owesAt Pipeline.owesWithin
  rw [show (dats m 0 c).owed t0_0.succ = 0 from rfl, bigSep_cells]
  isplitl [Hp Hr Hd Hz0 Hz1 Hz2 Hz3 HzB]
  · isplitl [Hp Hr Hd]
    · isplitl [Hp]; · iexact Hp
      isplitl [Hr] <;> iassumption
    isplitl [Hz0 Hz1 Hz2 Hz3]
    · isplitl [Hz0]; · iexact Hz0
      isplitl [Hz1]; · iexact Hz1
      isplitl [Hz2] <;> iassumption
    iexact HzB
  isplitl [HO]
  · unfold owing
    icases HO with ⟨%W', HO⟩
    iexists W'
    isplitr; · ipureintro; exact fun _ _ => Or.inl trivial
    iexact HO
  isplitl [Hx]
  · iexists _; isplitr; · (ipureintro; rfl)
    iexact Hx
  isplitl [Hw1]
  · iexists _; isplitr; · (ipureintro; rfl)
    iexact Hw1
  isplitl [Hw2]
  · iexists _; isplitr; · (ipureintro; rfl)
    iexact Hw2
  iexists _; isplitr; · (ipureintro; rfl)
  iexact Hout

set_option maxRecDepth 4000 in
/-- The pipeline's obligation for the body on device `c`. -/
theorem body_obligation (c : Dev nD) : Pipeline.BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) (fun _ => bodyPost m c)
  iintro H
  iapply (sound_body m c fun _ => bodyPost m c)
  isplitl [H]; · iexact H
  iintro H; iexact H

end Cert.Mlp

end
-- ==== Proof.Launch.lean ====
/-
# The launch

Every cell's invariant is allocated at once, the duties' tokens are dealt to the devices that pay them, and what each device is
owed at launch is counted: a barrier gets a unit from each other device, an arrival cell a block's units from one of them.
The run of the whole program follows, from any memory with zero counters and for any float values.
-/
module

public import proofs.«01_k».proof.Proof.Body
public import Idealize.ShloMosaic.Lib.Pipeline.Launch
public import Idealize.ShloMosaic.Lib.Pipeline.Kit
public import Idealize.ShloMosaic.Lib.Pipeline.CollectiveSegs
public import Idealize.ShloMosaic.Lib.Quiescent
public import Idealize.ShloMosaic.Lib.Tactic

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over a device's cells, and around the devices -/

/-- Over a device's 29 cells: the barrier, and the transfer cells. -/
theorem bigSep_slot {M : Type} [URA M] (Φ : Slot → sProp M) :
    bigSep Finset.univ Φ = iprop(Φ none ∗ bigSep Finset.univ fun ak : Fin 4 × Fin 7 => Φ (some ak)) := by
  rw [show (Finset.univ : Finset Slot) = insert none (Finset.univ.map Function.Embedding.some) by decide, bigSep_insert (by decide), bigSep_map]
  rfl

/-- Over devices and steps, each step's members taken from the device that many places on. -/
theorem bigSep_around {M : Type} [URA M] (Φ : Dev nD → Fin 7 → sProp M) :
    (bigSep Finset.univ fun c => bigSep Finset.univ fun k => Φ c k) = bigSep Finset.univ fun c => bigSep Finset.univ fun k => Φ (fw c k) k := by
  rw [bigSep_univ_comm, bigSep_univ_comm fun c k => Φ (fw c k) k]
  exact bigSep_congr fun k _ => bigSep_univ_equiv (turn k) fun c => Φ c k

/-! ## The cells and the duties as minted -/

/-- The kernel's own semaphores. -/
def osem (ak : Fin 4 × Fin 7) : SemLoc sig := csem (some ak)
theorem ownSemFacts : Pipeline.OwnSemFacts cfg0.spec osem := by decide

theorem share_eq (c : Dev nD) (w : Fin cfg0.W) : (dats m 0 c).share w = fullShare := by unfold Pipeline.Dat.share; split <;> rfl

/-- All cells of all devices. -/
def allCells : Finset (GSem nD τ sig) := Finset.univ.map ⟨fun ci : Dev nD × Slot => cell ci.1 ci.2, cell_injective⟩

/-- The duties of a device's cells: seven of its barrier, one of each transfer cell. -/
def tokOf (cj : Dev nD × (Fin 7 ⊕ Fin 4 × Fin 7)) : GSem nD τ sig × ℕ × Fin 7 := match cj.2 with
  | .inl j => (barCell cj.1, 0, j)
  | .inr ak => (xCell ak.1 cj.1 ak.2, 0, 0)
theorem tokOf_injective : Function.Injective tokOf := by
  rintro ⟨c, j | ak⟩ ⟨c', j' | ak'⟩ h
  · have h1 := cell_injective (a₁ := (c, none)) (a₂ := (c', none)) (congrArg Prod.fst h)
    have h2 : j = j' := congrArg (fun x => x.2.2) h
    rw [h2, (Prod.mk.inj h1).1]
  · exact absurd (cell_injective (a₁ := (c, none)) (a₂ := (c', some ak')) (congrArg Prod.fst h)) fun h => nomatch (Prod.mk.inj h).2
  · exact absurd (cell_injective (a₁ := (c, some ak)) (a₂ := (c', none)) (congrArg Prod.fst h)) fun h => nomatch (Prod.mk.inj h).2
  · have h1 := cell_injective (a₁ := (c, some ak)) (a₂ := (c', some ak')) (congrArg Prod.fst h)
    rw [(Prod.mk.inj h1).1, Option.some.inj (Prod.mk.inj h1).2]
def allToks : Finset (GSem nD τ sig × ℕ × Fin 7) := Finset.univ.map ⟨tokOf, tokOf_injective⟩

def u₀ : UU := (initOf (Pipeline.cells cfgs cellOf_inj) (Pipeline.launchToks cfgs cellOf_inj), initOf allCells allToks)

/-- The duties' tokens of device `c`'s own cells. -/
def toks (c : Dev nD) : sProp 𝕄 :=
  iprop((bigSep Finset.univ fun j => dutyTok ER (barCell c) 0 j) ∗ bigSep Finset.univ fun ak : Fin 4 × Fin 7 => dutyTok ER (xCell ak.1 c ak.2) 0 0)
/-- The tokens of the duties device `c` pays. -/
def payToks (c : Dev nD) : sProp 𝕄 :=
  iprop((bigSep Finset.univ fun k => dutyTok ER (barCell (fw c k)) 0 k.rev)
    ∗ (bigSep Finset.univ fun k => dutyTok ER (xCell 0 c k) 0 0) ∗ (bigSep Finset.univ fun k => dutyTok ER (xCell 1 (fw c k) k) 0 0)
    ∗ (bigSep Finset.univ fun k => dutyTok ER (xCell 2 c k) 0 0) ∗ (bigSep Finset.univ fun k => dutyTok ER (xCell 3 (fw c k) k) 0 0))

/-- What the launch deals device `c`. -/
def G (c : Dev nD) : sProp 𝕄 :=
  iprop((bigSep Finset.univ fun i : Slot => roundState ER (sched m) (cell c i) 0)
    ∗ (bigSep Finset.univ fun i : Slot => atPos ER (cell c i) 0 ∅ 0) ∗ (bigSep Finset.univ fun i : Slot => reached ER (cell c i) 0) ∗ toks c)

/-- Every cell's invariant, and that its round is open. -/
def records (K : Dev nD × Slot → ℕ) : sProp 𝕄 :=
  iprop((bigSep Finset.univ fun ci : Dev nD × Slot => cellInv ER (sched m) (K ci) (cell ci.1 ci.2))
    ∗ bigSep Finset.univ fun ci : Dev nD × Slot => reached ER (cell ci.1 ci.2) 0)
instance records_persistent (K : Dev nD × Slot → ℕ) : BI.Persistent (records m K) := by unfold records; infer_instance

/-- Device `c`'s own: where it stands on its cells, and the tokens of the duties it pays. -/
def mine (c : Dev nD) : sProp 𝕄 :=
  iprop(atPos ER (barCell c) 0 ∅ 0 ∗ (bigSep Finset.univ fun ak : Fin 4 × Fin 7 => atPos ER (xCell ak.1 c ak.2) 0 ∅ 0) ∗ payToks c)

/-- What the global step makes of what the launch deals. -/
def G' (c : Dev nD) : sProp 𝕄 := iprop(∃ K, records m K ∗ mine (F := F) c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun i : Slot => Φ (cell c i) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

/-! ## The semaphores at zero -/

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun ak : Fin 4 × Fin 7 => semVal (xCell ak.1 c ak.2) 0 := rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem sems0 (c : Dev nD) :
    iprop(Pipeline.ownSems0 (Ix := Unit) (Name := ℕ) (U := UU) (Lvl := ℕ) (Val := Elt F) (τ := τ) osem c ∗ unscopedSems0 c)
      ⊢ (bigSep Finset.univ fun i : Slot => semVal (cell c i) 0 : sProp 𝕄) := by
  rw [ownSems0_eq, unscopedSems0_eq, bigSep_slot]
  iintro ⟨H, HB⟩
  isplitl [HB] <;> iassumption

/-! ## The global step -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Slot => iprop(∃ κ : ℕ, cellInv ER (sched m) κ (cell c i)))
          ∗ (bigSep Finset.univ fun i : Slot => atPos ER (cell c i) 0 ∅ 0) ∗ (bigSep Finset.univ fun i : Slot => reached ER (cell c i) 0) ∗ toks c) := by
  unfold G
  iintro ⟨Hos, Hus, Hst, Hrest⟩
  ihave Hv := (sems0 (F := F) c) $$ [Hos Hus]
  · isplitl [Hos] <;> iassumption
  imod (show iprop((bigSep Finset.univ fun i : Slot => semVal (cell c i) 0) ∗ bigSep Finset.univ fun i : Slot => roundState ER (sched m) (cell c i) 0)
      ⊢ (|={Set.univ}=> bigSep Finset.univ fun i => iprop(∃ κ : ℕ, cellInv ER (sched m) κ (cell c i)) : sProp 𝕄) from by
        rw [← bigSep_sep']
        exact (bigSep_mono fun i _ => (Rounds.body_intro ER (sched m) (cell c i)).trans inv_alloc).trans (bigSep_fupd _ _)) $$ [Hv Hst] with Hinv
  · isplitl [Hv] <;> iassumption
  imodintro
  isplitl [Hinv] <;> iassumption

omit [FloatOps F] in
/-- The tokens dealt around: a barrier's duties to the other seven devices, an arrival's to the device it comes from. -/
theorem toks_around : (bigSep Finset.univ fun c : Dev nD => (toks (F := F) c : sProp 𝕄)) ⊢ bigSep Finset.univ fun c : Dev nD => payToks (F := F) c := by
  have hcells (c : Dev nD) : (bigSep Finset.univ fun ak : Fin 4 × Fin 7 => (dutyTok ER (xCell ak.1 c ak.2) 0 0 : sProp 𝕄)) = _ := bigSep_cells _
  have hbar (c : Dev nD) := (bigSep_rev fun j => (dutyTok ER (barCell c) 0 j : sProp 𝕄)).symm
  unfold toks payToks
  simp only [hcells, hbar]
  simp only [bigSep_sep']
  rw [bigSep_around fun c k => (dutyTok ER (barCell c) 0 k.rev : sProp 𝕄), bigSep_around fun c k => (dutyTok ER (xCell 1 c k) 0 0 : sProp 𝕄),
    bigSep_around fun c k => (dutyTok ER (xCell 3 c k) 0 0 : sProp 𝕄)]

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : Slot => iprop(∃ κ : ℕ, cellInv ER (sched m) κ (cell c i)))
          ∗ (bigSep Finset.univ fun i : Slot => atPos ER (cell c i) 0 ∅ 0) ∗ (bigSep Finset.univ fun i : Slot => reached ER (cell c i) 0) ∗ toks c) : sProp 𝕄)
      ⊢ bigSep Finset.univ (G' m) := by
  rw [bigSep_sep', bigSep_sep', bigSep_sep', ← bigSep_univ_prod (fun ci : Dev nD × Slot => iprop(∃ κ : ℕ, cellInv ER (sched m) κ (cell ci.1 ci.2))),
    ← bigSep_univ_prod (fun ci : Dev nD × Slot => (reached ER (cell ci.1 ci.2) 0 : sProp 𝕄))]
  iintro ⟨HI, Hat, #HR, Htok⟩
  ihave HK := (BI.bigSep_exists_pi Finset.univ (fun (ci : Dev nD × Slot) (κ : ℕ) => (cellInv ER (sched m) κ (cell ci.1 ci.2) : sProp 𝕄))) $$ HI
  icases HK with ⟨%K, #HI⟩
  ihave Htk := (toks_around (F := F)) $$ Htok
  iapply (bigSep_with_persistent (R := records m K) (Φ := mine) fun c _ => exists_intro (Φ := fun K => iprop(records m K ∗ mine (F := F) c)) K)
  isplitr
  · unfold records; isplitl; · iexact HI
    iexact HR
  · iapply ((Entails.of_eq (bigSep_sep' Finset.univ (fun c : Dev nD => bigSep Finset.univ fun i : Slot => (atPos ER (cell c i) 0 ∅ 0 : sProp 𝕄)) payToks).symm).trans
      (bigSep_mono fun c _ => show _ ⊢ mine (F := F) c from by
        unfold mine; rw [bigSep_slot]
        iintro ⟨⟨H1, H2⟩, H3⟩
        isplitl [H1]; · iexact H1
        isplitl [H2] <;> iassumption))
    isplitl [Hat] <;> iassumption

/-- The semaphores of every device at once become the cells' invariants. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What is owed at launch, counted by the cell it is owed to -/

/-- Seven tallies of `n` units, the one of step `k` on cell `s k` of the device `k + 1` places on: what all devices together
    owe a cell is `n` for each step whose cell it is. -/
theorem owed_steps (s : Fin 7 → Slot) (n : ℕ) (c : Dev nD) (t : Slot) :
    (∑ d : Dev nD, (due (fun k => (tallyAt (cell (fw d k) (s k)) () n : CellTallies nD τ sig Unit)) 0) (cell c t) ()) = ∑ k, if s k = t then n else 0 := by
  simp only [due_zero, Finset.sum_apply, Finsupp.finset_sum_apply]
  rw [Finset.sum_comm]
  refine Finset.sum_congr rfl fun k _ => ?_
  rw [Finset.sum_eq_single (fw c k.rev)]
  · rw [tallyAt_apply, fw_rev_fw]
    by_cases h : s k = t
    · rw [h, if_pos ⟨rfl, rfl⟩, if_pos rfl]
    · rw [if_neg h, if_neg fun h' => h (csem_injective (congrArg Prod.snd h'.1)).symm]
  · intro d _ hd
    rw [tallyAt_apply, if_neg]
    rintro ⟨h, -⟩
    have h1 : c = fw d k := congrArg (fun g : GSem nD τ sig => g.1.1) h
    exact hd (by rw [h1, fw_fw_rev])
  · exact fun h => absurd (Finset.mem_univ _) h

theorem launch_cell (c : Dev nD) (t : Slot) (n : ℕ)
    (h : (∑ k : Fin 7, if some (3, k) = t then N else 0) + (∑ k : Fin 7, if some (1, k) = t then N else 0) + (∑ k : Fin 7, if none = t then 1 else 0) = n) :
    tallyOn (cell c t) (launchCredit (Pipeline.owing O₀) 0 (cell c t)) = (tallyAt (cell c t) () n : CellTallies nD τ sig Unit) := by
  unfold tallyAt; refine congrArg _ (Finsupp.ext fun u => ?_); cases u
  rw [Pipeline.launchCredit_owing, Finsupp.single_eq_same, ← h, ← owed_steps (fun k => some (3, k)) N c t, ← owed_steps (fun k => some (1, k)) N c t,
    ← owed_steps (fun _ => none) 1 c t, ← Finset.sum_add_distrib, ← Finset.sum_add_distrib]
  rfl

theorem launch_bar (c : Dev nD) : tallyOn (barCell c) (launchCredit (Pipeline.owing O₀) 0 (barCell c)) = (tallyAt (barCell c) () 7 : CellTallies nD τ sig Unit) :=
  launch_cell c none 7 (by simp)
theorem launch_one (c : Dev nD) (k : Fin 7) :
    tallyOn (xCell 1 c k) (launchCredit (Pipeline.owing O₀) 0 (xCell 1 c k)) = (tallyAt (xCell 1 c k) () N : CellTallies nD τ sig Unit) :=
  launch_cell c (some (1, k)) N (by simp)
theorem launch_three (c : Dev nD) (k : Fin 7) :
    tallyOn (xCell 3 c k) (launchCredit (Pipeline.owing O₀) 0 (xCell 3 c k)) = (tallyAt (xCell 3 c k) () N : CellTallies nD τ sig Unit) :=
  launch_cell c (some (3, k)) N (by simp)

omit [FloatOps F] in
/-- What device `c` is owed: its barrier's seven units, and each arrival's. -/
theorem creds (c : Dev nD) : (Pipeline.launchCred O₀ c : sProp 𝕄)
    ⊢ iprop(cred (tallyAt (barCell c) () 7) ∗ (bigSep Finset.univ fun k => sent (F := F) c 1 k) ∗ (bigSep Finset.univ fun k => sent (F := F) c 3 k)) := by
  unfold Pipeline.launchCred
  refine (bigSep_subset (Finset.subset_univ (Finset.univ.map ⟨csem, csem_injective⟩))).trans ?_
  rw [bigSep_map, bigSep_slot, bigSep_cells]
  unfold sent
  show iprop(cred (tallyOn (barCell c) (launchCredit (Pipeline.owing O₀) 0 (barCell c)))
      ∗ (bigSep Finset.univ fun k => cred (tallyOn (xCell 0 c k) (launchCredit (Pipeline.owing O₀) 0 (xCell 0 c k))))
      ∗ (bigSep Finset.univ fun k => cred (tallyOn (xCell 1 c k) (launchCredit (Pipeline.owing O₀) 0 (xCell 1 c k))))
      ∗ (bigSep Finset.univ fun k => cred (tallyOn (xCell 2 c k) (launchCredit (Pipeline.owing O₀) 0 (xCell 2 c k))))
      ∗ (bigSep Finset.univ fun k => cred (tallyOn (xCell 3 c k) (launchCredit (Pipeline.owing O₀) 0 (xCell 3 c k))))) ⊢ _
  simp only [launch_bar, launch_one, launch_three]
  iintro ⟨H, -, H1, -, H3⟩
  isplitl [H]; · iexact H
  isplitl [H1] <;> iassumption

/-! ## The side conditions of the run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold G' records mine payToks start ghost know
  icases HG with ⟨%K, ⟨HI, HR⟩, Hmine⟩
  isplitl
  · isplitl [Hlev HI HR Hmine]
    · iexists K
      isplitl [Hlev HI HR]
      · isplitl [Hlev]; · iexact Hlev
        isplitl [HI] <;> iassumption
      iexact Hmine
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl, scopedRest0_eq, ownSems0_eq, unscopedSems0_eq]
  unfold Φ₁ scratch
  iintro ⟨Hr, Hz, HzB⟩
  isplitl [HzB]; · iexact HzB
  isplitl [Hz] <;> iassumption

theorem waits (c : Dev nD) : (levAts L lv : sProp 𝕄) ⊢ Pipeline.cellsWaits cfgs (dats m) () 0 c :=
  Pipeline.cellsWaits_intro cfgs (dats m) () 0 c fun w s t =>
    mayWait 0 c _ (by fin_cases w <;> fin_cases s <;> exact Nat.le_refl 0) _ (by
      rcases t with ⟨_ | _, ht⟩
      · exact above_O₀ c
      · exact above_zero 0)

/-! ## The run -/

/-- What the array of window `w` on device `c` ends holding. -/
def finalA (c : Dev nD) (w : Fin cfg0.W) : Buf (Elt F) ((cfg0.win w).arr.view.loc (c : Thread nD τ)) := (dats m 0 c).arrAt w cfg0.N

set_option maxRecDepth 8000 in
/-- From any memory with zero counters every weakly fair execution terminates, with every device's arrays at the computed
    contents and every semaphore counter at zero. -/
theorem run_main : θ_run defs (onTc (τ := τ) (main (F := F))) ⟨m, fun _ => 0, ρ⟩
    (fun r => (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array ends holding what it held. -/
theorem finalA_in (c : Dev nD) (w : Fin cfg0.W) (hw : (cfg0.win w).isOut = false) : finalA m c w = m ((cfg0.win w).arr.view.loc (c : Thread nD τ)) :=
  (dats m 0 c).arrAt_in w hw _

end Cert.Mlp

end
-- ==== Proof.Result.lean ====
/-
# What the arrays hold after the run

A window is its whole array: the arguments are staged as they are, and the result array ends holding every device's sum.
-/
module

public import proofs.«01_k».proof.Proof.Launch

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- An element of a window that is the whole array is the array's. -/
theorem emb_whole (w : Fin 4) (a : Fin (win0 w).shape.rank) (i : ((win0 w).rect (0 : Fin 1)).shape.Idx) :
    (((win0 w).rect (0 : Fin 1)).emb i a).val = (i a).val := by
  rw [Rect.emb_apply]
  fin_cases w <;> (show 0 * _ + 1 * _ = _; omega)

theorem xin_eq (c : Dev nD) : xin m c = m ((c : Thread nD τ).loc main_arg0) := by
  funext i
  show m ((c : Thread nD τ).loc main_arg0) ((win0_0.rect (0 : Fin 1)).emb i) = _
  exact congrArg _ (funext fun a => Fin.ext (emb_whole 0 a i))
theorem w1in_eq (c : Dev nD) : w1in m c = m ((c : Thread nD τ).loc main_arg1) := by
  funext i
  show m ((c : Thread nD τ).loc main_arg1) ((win0_1.rect (0 : Fin 1)).emb i) = _
  exact congrArg _ (funext fun a => Fin.ext (emb_whole 1 a i))
theorem w2in_eq (c : Dev nD) : w2in m c = m ((c : Thread nD τ).loc main_arg2) := by
  funext i
  show m ((c : Thread nD τ).loc main_arg2) ((win0_2.rect (0 : Fin 1)).emb i) = _
  exact congrArg _ (funext fun a => Fin.ext (emb_whole 2 a i))

theorem flushed_eq (c : Dev nD) (t : Fin cfg0.N) :
    (dats m 0 c).flushed 3 t = ((cfg0.win 3).blk t).view.read (Elt F) (outV m) := by
  obtain rfl := fin_N0 t
  funext i
  show outV m _ = outV m ((win0_3.rect (0 : Fin 1)).emb i)
  exact congrArg _ (funext fun a => Fin.ext (emb_whole 3 a i).symm)

theorem cover (i : S256x256.Idx) : ∃ t : Fin cfg0.N, (cfg0.win 3).flush t = true ∧ i ∈ ((cfg0.win 3).blk t).view.set := by
  refine ⟨t0_0, flush0_3 _, ?_⟩
  show i ∈ ((View.whole main_v1).slice (win0_3.rect (0 : Fin 1))).set
  rw [View.set_slice_whole, Rect.mem_set_unit]
  intro a
  have h := (i a).isLt
  show 0 * _ ≤ (i a).val ∧ (i a).val < 0 * _ + S256x256.size a
  omega

/-- The result array ends holding every device's sum. -/
theorem finalA_out (c : Dev nD) : finalA m c (3 : Fin 4) = outV m :=
  (dats m 0 c).arrAt_eq_of_cover 3 (outV m) (fun t _ => flushed_eq m c t) cover

/-- The run of the program, from any memory with zero counters: every device's result holds every device's sum, the arguments are
    unchanged, and every semaphore counter is at zero. -/
theorem run_result (ρ : Dev nD → PrngReg) : θ_run defs (onTc (τ := τ) (main (F := F))) ⟨m, fun _ => 0, ρ⟩
    (fun r => (∀ c : Dev nD, r.2.mem ((c : Thread nD τ).loc main_v1) = outV m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun _ h => ⟨fun c => ⟨(h.1 c (3 : Fin 4)).trans (finalA_out m c), (h.1 c (0 : Fin 4)).trans (finalA_in m c 0 rfl),
    (h.1 c (1 : Fin 4)).trans (finalA_in m c 1 rfl), (h.1 c (2 : Fin 4)).trans (finalA_in m c 2 rfl)⟩, h.2⟩) (run_main m ρ)

/-- The frame, over any floats: the arguments end unchanged and every semaphore reads zero. -/
theorem run_frame (ρ : Dev nD → PrngReg) : θ_run defs (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun _ h => ⟨fun c => (h.1 c).2, h.2⟩) (run_result m ρ)

end Cert.Mlp

end
-- ==== Proof.Equation.lean ====
/-
# The sums of the partial products are the reference's product

On extended reals. The hidden columns come in eight tiles of 512, one for each device: a device's partial product is the sum over
its tile, and the reference's product the sum over all of them.
-/
module

public import proofs.«01_k».proof.Proof.Result
public import proofs.«01_k».proof.Proof.Gen.ReferenceIdeal.Run
public import Idealize.ShloMosaic.Lib.Pointwise
public import Idealize.ShloMosaic.Lib.Layout

@[expose] public section

noncomputable section

namespace Cert.Mlp

open Cert.KernelIdeal Cert.KernelIdeal.Gen

open Idealize.ShloMosaic
open Idealize.ShloMosaic.TcCoe

/-- The reference's result. -/
def refV (X : Vec Ideal S256x256 .f32) (A : FVec Ideal ⟨2, ![256, 4096]⟩ .f32) (B : FVec Ideal ⟨2, ![4096, 256]⟩ .f32) : FVec Ideal S256x256 .f32 :=
  Host.dotGeneral Cert.ReferenceIdeal.dot_S256x4096_S4096x256_S256x256_1_0_0_1_n_n none
    (maximumf (Host.dotGeneral Cert.ReferenceIdeal.dot_S256x256_S256x4096_S256x4096_1_0_0_1_n_n none (φ₁ := .f32) (φ₂ := .f32) X A)
      (broadcastInDim Cert.ReferenceIdeal.S256x4096 ![] Cert.ReferenceIdeal.Facts₀.bcast_S_S256x4096 (constant Cert.ReferenceIdeal.S_ .f32 0x00000000#32))) B

/-- An entry of a device's partial product: the sum over its 512 hidden columns. -/
theorem pay1_apply (x : Vec Ideal S256x256 .f32) (a : Vec Ideal S256x512 .f32) (b : Vec Ideal S512x256 .f32) (r c : Fin 256) :
    k0_pay1 x a b (ix2 r c) = ∑ k : Fin 512, max (∑ q : Fin 256, x (ix2 r q) * a (ix2 q k)) 0 * b (ix2 k c) := by
  pointwise [k0_pay1]

/-- An entry of the reference's result: the sum over all 4096. -/
theorem refV_apply (X : Vec Ideal S256x256 .f32) (A : FVec Ideal ⟨2, ![256, 4096]⟩ .f32) (B : FVec Ideal ⟨2, ![4096, 256]⟩ .f32) (r c : Fin 256) :
    refV X A B (ix2 r c) = ∑ k : Fin 4096, max (∑ q : Fin 256, X (ix2 r q) * A (ix2 q k)) 0 * B (ix2 k c) := by
  pointwise [refV]

section Sum
variable (m : (ℓ : Loc nD τ sig) → Buf (Elt Ideal) ℓ)

/-- An entry of a device's rows of the result: the sum of all devices' partial products there. -/
theorem red_apply (j : Dev nD) (i : S32x256.Idx) : red m j i = ∑ d : Dev nD, part m d ((row j).emb i) := by
  rw [univ_dev j, Finset.sum_insert (notMem_map_fw j), Finset.sum_map, Fin.sum_univ_seven]
  have h : k0_pay2 (blk (part m j) j) = blk (part m j) j := by unfold k0_pay2; exact shapeCast_self _ _
  unfold red acc6 acc3
  rw [h]
  show ((((((part m j _ + part m (fw j 0) _) + part m (fw j 1) _) + part m (fw j 2) _) + part m (fw j 3) _) + part m (fw j 4) _)
    + part m (fw j 5) _) + part m (fw j 6) _ = _
  simp only [add_assoc]
  rfl

/-- An entry of the result: the sum of all devices' partial products there. -/
theorem outV_apply (i : S256x256.Idx) : outV m i = ∑ d : Dev nD, part m d i := by
  unfold outV glue
  rw [red_apply]
  refine Finset.sum_congr rfl fun d _ => congrArg (part m d) (funext fun a => Fin.ext ?_)
  rw [Rect.emb_apply]
  have h0 : (i (0 : Fin 2)).val < 256 := (i (0 : Fin 2)).isLt
  have h1 : (i (1 : Fin 2)).val < 256 := (i (1 : Fin 2)).isLt
  fin_cases a
  · show 32 * ((i (0 : Fin 2)).val / 32) + 1 * ((i (0 : Fin 2)).val % 32) = (i (0 : Fin 2)).val; omega
  · show 0 + 1 * ((i (1 : Fin 2)).val % 256) = (i (1 : Fin 2)).val; omega

/-- Where every device holds `X`, its tile of the columns of `A` and its tile of the rows of `B`, the result is the reference's. -/
theorem outV_eq (X : FVec Ideal S256x256 .f32) (A : FVec Ideal ⟨2, ![256, 4096]⟩ .f32) (B : FVec Ideal ⟨2, ![4096, 256]⟩ .f32)
    (hX : ∀ c : Dev nD, m ((c : Thread nD τ).loc main_arg0) = X)
    (hA : ∀ c : Dev nD, m ((c : Thread nD τ).loc main_arg1) = Layout.block ⟨2, ![256, 512]⟩ ⟨2, ![256, 4096]⟩ 1 8 c A)
    (hB : ∀ c : Dev nD, m ((c : Thread nD τ).loc main_arg2) = Layout.block ⟨2, ![512, 256]⟩ ⟨2, ![4096, 256]⟩ 0 8 c B) :
    outV m = refV X A B := by
  funext i
  obtain ⟨r, c, rfl⟩ : ∃ (r c : Fin 256), i = ix2 r c := ⟨i 0, i 1, eq_ix2 i⟩
  rw [outV_apply, refV_apply, Fin.sum_univ_tiles 8 512 rfl]
  refine Finset.sum_congr rfl fun d _ => ?_
  unfold part
  rw [xin_eq, w1in_eq, w2in_eq, hX, hA, hB, pay1_apply]
  refine Finset.sum_congr rfl fun k _ => ?_
  have ha (q : Fin 256) : Layout.block ⟨2, ![256, 512]⟩ ⟨2, ![256, 4096]⟩ 1 8 d A (by decide) (ix2 q k) = A (ix2 q ⟨d.val * 512 + k.val, by have := d.isLt; have := k.isLt; change _ < 8 at *; omega⟩) :=
    congrArg A (by rw [eq_ix2 (Layout.Tiles.idx _ _ _)]; rfl)
  have hb : Layout.block ⟨2, ![512, 256]⟩ ⟨2, ![4096, 256]⟩ 0 8 d B (by decide) (ix2 k c) = B (ix2 ⟨d.val * 512 + k.val, by have := d.isLt; have := k.isLt; change _ < 8 at *; omega⟩ c) :=
    congrArg B (by rw [eq_ix2 (Layout.Tiles.idx _ _ _)]; rfl)
  simp only [ha, hb]

end Sum

end Cert.Mlp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

section Same
variable {F : FTy → Type} [FloatOps F]

/-- The kernel and its reading on extended reals have the same body. -/
theorem same_body : Cert.Kernel.defs₀ (F := F) = Cert.KernelIdeal.defs₀ := by
  unfold Cert.Kernel.defs₀ Cert.KernelIdeal.defs₀
  refine congrArg (Defs.onTc (Λ := Cert.KernelIdeal.Λ₀)) (funext fun l => funext fun x => ?_)
  match l, x with
  | 0, (_, _) => rfl

/-- And the same table of bodies. -/
theorem same_defs : Cert.Kernel.defs (F := F) = Cert.KernelIdeal.defs := by
  unfold Cert.Kernel.defs
  rw [same_body]
  rfl

end Same

/-- The kernel runs, its arguments end unchanged and every semaphore reads zero. -/
theorem frame_kernel : Cert.quiescent_Kernel := fun m ρ _ => by
  rw [same_defs]
  exact Cert.Mlp.run_frame (F := Bits) m ρ

/-- The same of the kernel on extended reals. -/
theorem frame_ideal : Cert.quiescent_KernelIdeal := fun m ρ _ =>
  Cert.Mlp.run_frame (F := Ideal) m ρ

/-- The same of the reference, which has no semaphores. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- On extended reals every device's result is the reference's. -/
theorem equal_results : Cert.algebraic_KernelIdeal_ReferenceIdeal := fun m ρ m' ρ' _ hm =>
  ⟨Cert.Mlp.refV (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    (θ_run Cert.KernelIdeal.defs _ _).mono
      (fun _ h c => ⟨(h.1 c).1.trans (Cert.Mlp.outV_eq m _ _ _ (fun c => (hm c).1) (fun c => (hm c).2.1) (fun c => (hm c).2.2)), (h.1 c).2⟩)
      (Cert.Mlp.run_result (F := Ideal) m ρ),
    (θ_run Cert.ReferenceIdeal.defs _ _).mono (fun _ h => h 0) (Cert.ReferenceIdeal.Value.run (F := Ideal) m' ρ')⟩

/-- The five claims: the three runs, nothing rewritten, and equal results. -/
theorem claim : Cert.Claim := ⟨Cert.Kernel.Gen.facts, Cert.KernelIdeal.Gen.facts, Cert.ReferenceIdeal.Gen.facts,
  frame_kernel, frame_ideal, frame_reference, trivial, equal_results⟩

end Cert.Proof

end
